-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x128x128 : Shape := ⟨4, ![8, 96, 128, 128]⟩
abbrev S96x1x5x5 : Shape := ⟨4, ![96, 1, 5, 5]⟩
abbrev S128x96x1x1 : Shape := ⟨4, ![128, 96, 1, 1]⟩
abbrev S128 : Shape := ⟨1, ![128]⟩
abbrev S128x1x5x5 : Shape := ⟨4, ![128, 1, 5, 5]⟩
abbrev S128x128x1x1 : Shape := ⟨4, ![128, 128, 1, 1]⟩
abbrev S80x128x1x1 : Shape := ⟨4, ![80, 128, 1, 1]⟩
abbrev S80 : Shape := ⟨1, ![80]⟩
abbrev S64x96x1x1 : Shape := ⟨4, ![64, 96, 1, 1]⟩
abbrev S64 : Shape := ⟨1, ![64]⟩
abbrev S64x1x5x5 : Shape := ⟨4, ![64, 1, 5, 5]⟩
abbrev S64x64x1x1 : Shape := ⟨4, ![64, 64, 1, 1]⟩
abbrev S4x64x1x1 : Shape := ⟨4, ![4, 64, 1, 1]⟩
abbrev S4 : Shape := ⟨1, ![4]⟩
abbrev S8x96x16384 : Shape := ⟨3, ![8, 96, 16384]⟩
abbrev S96x25 : Shape := ⟨2, ![96, 25]⟩
abbrev S128x96 : Shape := ⟨2, ![128, 96]⟩
abbrev S128x1 : Shape := ⟨2, ![128, 1]⟩
abbrev S128x25 : Shape := ⟨2, ![128, 25]⟩
abbrev S128x128 : Shape := ⟨2, ![128, 128]⟩
abbrev S80x128 : Shape := ⟨2, ![80, 128]⟩
abbrev S80x1 : Shape := ⟨2, ![80, 1]⟩
abbrev S64x96 : Shape := ⟨2, ![64, 96]⟩
abbrev S64x1 : Shape := ⟨2, ![64, 1]⟩
abbrev S64x25 : Shape := ⟨2, ![64, 25]⟩
abbrev S64x64 : Shape := ⟨2, ![64, 64]⟩
abbrev S_ : Shape := ⟨0, ![]⟩
abbrev S8x64 : Shape := ⟨2, ![8, 64]⟩
abbrev S4x64 : Shape := ⟨2, ![4, 64]⟩
abbrev S1 : Shape := ⟨1, ![1]⟩
abbrev S8x1 : Shape := ⟨2, ![8, 1]⟩
abbrev S2 : Shape := ⟨1, ![2]⟩
abbrev S8x80x16384 : Shape := ⟨3, ![8, 80, 16384]⟩
abbrev S8x8x16384 : Shape := ⟨3, ![8, 8, 16384]⟩
abbrev S8x80x128x128 : Shape := ⟨4, ![8, 80, 128, 128]⟩
abbrev S8x4x16384 : Shape := ⟨3, ![8, 4, 16384]⟩
abbrev S8x4x128x128 : Shape := ⟨4, ![8, 4, 128, 128]⟩
abbrev S1x96x16384 : Shape := ⟨3, ![1, 96, 16384]⟩
abbrev S1x80x16384 : Shape := ⟨3, ![1, 80, 16384]⟩
abbrev S1x8x16384 : Shape := ⟨3, ![1, 8, 16384]⟩
abbrev S96x17152 : Shape := ⟨2, ![96, 17152]⟩
abbrev S128x17152 : Shape := ⟨2, ![128, 17152]⟩
abbrev S96x384 : Shape := ⟨2, ![96, 384]⟩
abbrev S128x384 : Shape := ⟨2, ![128, 384]⟩
abbrev S1x8192 : Shape := ⟨2, ![1, 8192]⟩
abbrev S96x16384 : Shape := ⟨2, ![96, 16384]⟩
abbrev S96x8448 : Shape := ⟨2, ![96, 8448]⟩
abbrev S96x1 : Shape := ⟨2, ![96, 1]⟩
abbrev S96x8192 : Shape := ⟨2, ![96, 8192]⟩
abbrev S128x8192 : Shape := ⟨2, ![128, 8192]⟩
abbrev S128x8448 : Shape := ⟨2, ![128, 8448]⟩
abbrev S80x8192 : Shape := ⟨2, ![80, 8192]⟩
abbrev S1x80x8192 : Shape := ⟨3, ![1, 80, 8192]⟩
abbrev S64x8192 : Shape := ⟨2, ![64, 8192]⟩
abbrev S64x8448 : Shape := ⟨2, ![64, 8448]⟩
abbrev S8x8192 : Shape := ⟨2, ![8, 8192]⟩
abbrev S1x8x8192 : Shape := ⟨3, ![1, 8, 8192]⟩

abbrev nBuf : Space → Nat
  | .hbm => 61
  | .vmem => 24
  | .smem => 0
  | _ => 0

abbrev bufTy : (tb : Table) → Fin (tcTables nBuf tb) → BufTy
  | .hbm, ⟨0, _⟩ => ⟨S8x96x128x128, .f32⟩
  | .hbm, ⟨1, _⟩ => ⟨S96x1x5x5, .f32⟩
  | .hbm, ⟨2, _⟩ => ⟨S128x96x1x1, .f32⟩
  | .hbm, ⟨3, _⟩ => ⟨S128, .f32⟩
  | .hbm, ⟨4, _⟩ => ⟨S128x1x5x5, .f32⟩
  | .hbm, ⟨5, _⟩ => ⟨S128x128x1x1, .f32⟩
  | .hbm, ⟨6, _⟩ => ⟨S128, .f32⟩
  | .hbm, ⟨7, _⟩ => ⟨S80x128x1x1, .f32⟩
  | .hbm, ⟨8, _⟩ => ⟨S80, .f32⟩
  | .hbm, ⟨9, _⟩ => ⟨S96x1x5x5, .f32⟩
  | .hbm, ⟨10, _⟩ => ⟨S64x96x1x1, .f32⟩
  | .hbm, ⟨11, _⟩ => ⟨S64, .f32⟩
  | .hbm, ⟨12, _⟩ => ⟨S64x1x5x5, .f32⟩
  | .hbm, ⟨13, _⟩ => ⟨S64x64x1x1, .f32⟩
  | .hbm, ⟨14, _⟩ => ⟨S64, .f32⟩
  | .hbm, ⟨15, _⟩ => ⟨S4x64x1x1, .f32⟩
  | .hbm, ⟨16, _⟩ => ⟨S4, .f32⟩
  | .hbm, ⟨17, _⟩ => ⟨S8x96x16384, .f32⟩
  | .hbm, ⟨18, _⟩ => ⟨S96x25, .f32⟩
  | .hbm, ⟨19, _⟩ => ⟨S96x25, .bf16⟩
  | .hbm, ⟨20, _⟩ => ⟨S128x96, .f32⟩
  | .hbm, ⟨21, _⟩ => ⟨S128x96, .bf16⟩
  | .hbm, ⟨22, _⟩ => ⟨S128x1, .f32⟩
  | .hbm, ⟨23, _⟩ => ⟨S128x25, .f32⟩
  | .hbm, ⟨24, _⟩ => ⟨S128x25, .bf16⟩
  | .hbm, ⟨25, _⟩ => ⟨S128x128, .f32⟩
  | .hbm, ⟨26, _⟩ => ⟨S128x128, .bf16⟩
  | .hbm, ⟨27, _⟩ => ⟨S128x1, .f32⟩
  | .hbm, ⟨28, _⟩ => ⟨S80x128, .f32⟩
  | .hbm, ⟨29, _⟩ => ⟨S80x128, .bf16⟩
  | .hbm, ⟨30, _⟩ => ⟨S80x1, .f32⟩
  | .hbm, ⟨31, _⟩ => ⟨S96x25, .f32⟩
  | .hbm, ⟨32, _⟩ => ⟨S96x25, .bf16⟩
  | .hbm, ⟨33, _⟩ => ⟨S64x96, .f32⟩
  | .hbm, ⟨34, _⟩ => ⟨S64x96, .bf16⟩
  | .hbm, ⟨35, _⟩ => ⟨S64x1, .f32⟩
  | .hbm, ⟨36, _⟩ => ⟨S64x25, .f32⟩
  | .hbm, ⟨37, _⟩ => ⟨S64x25, .bf16⟩
  | .hbm, ⟨38, _⟩ => ⟨S64x64, .f32⟩
  | .hbm, ⟨39, _⟩ => ⟨S64x64, .bf16⟩
  | .hbm, ⟨40, _⟩ => ⟨S64x1, .f32⟩
  | .hbm, ⟨41, _⟩ => ⟨S_, .bf16⟩
  | .hbm, ⟨42, _⟩ => ⟨S8x64, .bf16⟩
  | .hbm, ⟨43, _⟩ => ⟨S4x64, .f32⟩
  | .hbm, ⟨44, _⟩ => ⟨S4x64, .bf16⟩
  | .hbm, ⟨45, _⟩ => ⟨S_, .i32⟩
  | .hbm, ⟨46, _⟩ => ⟨S1, .i32⟩
  | .hbm, ⟨47, _⟩ => ⟨S8x64, .bf16⟩
  | .hbm, ⟨48, _⟩ => ⟨S_, .f32⟩
  | .hbm, ⟨49, _⟩ => ⟨S8x1, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S8x1, .f32⟩
  | .hbm, ⟨56, _⟩ => ⟨S8x80x16384, .f32⟩
  | .hbm, ⟨57, _⟩ => ⟨S8x8x16384, .f32⟩
  | .hbm, ⟨58, _⟩ => ⟨S8x80x128x128, .f32⟩
  | .hbm, ⟨59, _⟩ => ⟨S8x4x16384, .f32⟩
  | .hbm, ⟨60, _⟩ => ⟨S8x4x128x128, .f32⟩
  | .local _ .vmem, ⟨0, _⟩ => ⟨S1x96x16384, .f32⟩
  | .local _ .vmem, ⟨1, _⟩ => ⟨S1x96x16384, .f32⟩
  | .local _ .vmem, ⟨2, _⟩ => ⟨S96x25, .bf16⟩
  | .local _ .vmem, ⟨3, _⟩ => ⟨S128x96, .bf16⟩
  | .local _ .vmem, ⟨4, _⟩ => ⟨S128x1, .f32⟩
  | .local _ .vmem, ⟨5, _⟩ => ⟨S128x25, .bf16⟩
  | .local _ .vmem, ⟨6, _⟩ => ⟨S128x128, .bf16⟩
  | .local _ .vmem, ⟨7, _⟩ => ⟨S128x1, .f32⟩
  | .local _ .vmem, ⟨8, _⟩ => ⟨S80x128, .bf16⟩
  | .local _ .vmem, ⟨9, _⟩ => ⟨S80x1, .f32⟩
  | .local _ .vmem, ⟨10, _⟩ => ⟨S96x25, .bf16⟩
  | .local _ .vmem, ⟨11, _⟩ => ⟨S64x96, .bf16⟩
  | .local _ .vmem, ⟨12, _⟩ => ⟨S64x1, .f32⟩
  | .local _ .vmem, ⟨13, _⟩ => ⟨S64x25, .bf16⟩
  | .local _ .vmem, ⟨14, _⟩ => ⟨S64x64, .bf16⟩
  | .local _ .vmem, ⟨15, _⟩ => ⟨S64x1, .f32⟩
  | .local _ .vmem, ⟨16, _⟩ => ⟨S8x64, .bf16⟩
  | .local _ .vmem, ⟨17, _⟩ => ⟨S8x1, .f32⟩
  | .local _ .vmem, ⟨18, _⟩ => ⟨S1x80x16384, .f32⟩
  | .local _ .vmem, ⟨19, _⟩ => ⟨S1x80x16384, .f32⟩
  | .local _ .vmem, ⟨20, _⟩ => ⟨S1x8x16384, .f32⟩
  | .local _ .vmem, ⟨21, _⟩ => ⟨S1x8x16384, .f32⟩
  | .local _ .vmem, ⟨22, _⟩ => ⟨S96x17152, .bf16⟩
  | .local _ .vmem, ⟨23, _⟩ => ⟨S128x17152, .bf16⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_cst : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_c : Ref sig .tc := ⟨.hbm, 45, rfl⟩
abbrev main_call0_v27 : Ref sig .tc := ⟨.hbm, 46, rfl⟩
abbrev main_call0_v28 : Ref sig .tc := ⟨.hbm, 47, rfl⟩
abbrev main_call0_cst_0 : Ref sig .tc := ⟨.hbm, 48, rfl⟩
abbrev main_call0_v29 : Ref sig .tc := ⟨.hbm, 49, rfl⟩
abbrev main_call0_c_1 : Ref sig .tc := ⟨.hbm, 50, rfl⟩
abbrev main_call0_v30 : Ref sig .tc := ⟨.hbm, 51, rfl⟩
abbrev main_call0_c_2 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34_0 : Ref sig .tc := ⟨.hbm, 56, rfl⟩
abbrev main_call0_v34_1 : Ref sig .tc := ⟨.hbm, 57, rfl⟩
abbrev main_v0_0 : Ref sig .tc := ⟨.hbm, 58, rfl⟩
abbrev main_call0_v36 : Ref sig .tc := ⟨.hbm, 59, rfl⟩
abbrev main_v0_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_14 : BitVec 32 := 0#32
  let c2_i32 : BitVec 32 := 2#32
  let v32 : BitVec 32 := Scalar.addi c0_i32_14 c2_i32
  let c1_i32_15 : BitVec 32 := 1#32
  ⟨c0_i32_14, v32, c1_i32_15⟩
def k0_off1 (k0_t1 : Fin k0_t1_loop.trips) (c_m384_i32 : BitVec 32) : Fin 2 → Nat :=
  let c0_55 : Index := 0#32
  let c0_i32_14 : BitVec 32 := 0#32
  let c1_i32_15 : BitVec 32 := 1#32
  let arg22 : BitVec 32 := Scf.iv c0_i32_14 c1_i32_15 k0_t1
  let c8192_i32 : BitVec 32 := 8192#32
  let v62 : BitVec 32 := Scalar.muli arg22 c8192_i32
  let c384_i32 : BitVec 32 := 384#32
  let v63 : BitVec 32 := Scalar.addi v62 c384_i32
  let v64 : BitVec 32 := Scalar.addi v63 c_m384_i32
  let v65 : Index := Scalar.indexCast v64
  ![0, v65.toNat]
def k0_off1_at (r : Fin 5) : BitVec 32 :=
  if r.val < 2 then
    if r.val < 1 then
      4294966912#32
    else
      4294967040#32
  else
    if r.val < 3 then
      4294967168#32
    else
      if r.val < 4 then
        0#32
      else
        128#32
def k0_off2 (k0_t1 : Fin k0_t1_loop.trips) : Fin 2 → Nat :=
  let c0_77 : Index := 0#32
  let c0_i32_14 : BitVec 32 := 0#32
  let c1_i32_15 : BitVec 32 := 1#32
  let arg22 : BitVec 32 := Scf.iv c0_i32_14 c1_i32_15 k0_t1
  let c8192_i32 : BitVec 32 := 8192#32
  let v62 : BitVec 32 := Scalar.muli arg22 c8192_i32
  let c384_i32_76 : BitVec 32 := 384#32
  let v223 : BitVec 32 := Scalar.addi v62 c384_i32_76
  let v224 : Index := Scalar.indexCast v223
  ![0, v224.toNat]
@[reducible] def k0_t2_loop : Scf.Loop 32 :=
  let c0_i32_27 : BitVec 32 := 0#32
  let c2_i32_28 : BitVec 32 := 2#32
  let v43 : BitVec 32 := Scalar.addi c0_i32_27 c2_i32_28
  let c1_i32_29 : BitVec 32 := 1#32
  ⟨c0_i32_27, v43, c1_i32_29⟩
def k0_off3 (k0_t2 : Fin k0_t2_loop.trips) (c_m384_i32 : BitVec 32) : Fin 2 → Nat :=
  let c0_55 : Index := 0#32
  let c0_i32_27 : BitVec 32 := 0#32
  let c1_i32_29 : BitVec 32 := 1#32
  let arg22 : BitVec 32 := Scf.iv c0_i32_27 c1_i32_29 k0_t2
  let c8192_i32 : BitVec 32 := 8192#32
  let v62 : BitVec 32 := Scalar.muli arg22 c8192_i32
  let c384_i32 : BitVec 32 := 384#32
  let v63 : BitVec 32 := Scalar.addi v62 c384_i32
  let v64 : BitVec 32 := Scalar.addi v63 c_m384_i32
  let v65 : Index := Scalar.indexCast v64
  ![0, v65.toNat]
def k0_off3_at (r : Fin 5) : BitVec 32 :=
  if r.val < 2 then
    if r.val < 1 then
      4294966912#32
    else
      4294967040#32
  else
    if r.val < 3 then
      4294967168#32
    else
      if r.val < 4 then
        0#32
      else
        128#32
def k0_off4 (k0_t2 : Fin k0_t2_loop.trips) : Fin 3 → Nat :=
  let c0_77 : Index := 0#32
  let c0_78 : Index := 0#32
  let c0_i32_27 : BitVec 32 := 0#32
  let c1_i32_29 : BitVec 32 := 1#32
  let arg22 : BitVec 32 := Scf.iv c0_i32_27 c1_i32_29 k0_t2
  let c8192_i32 : BitVec 32 := 8192#32
  let v62 : BitVec 32 := Scalar.muli arg22 c8192_i32
  let v226 : Index := Scalar.indexCast v62
  ![0, 0, v226.toNat]
@[reducible] def k0_t3_loop : Scf.Loop 32 :=
  let c0_i32_37 : BitVec 32 := 0#32
  let c2_i32_38 : BitVec 32 := 2#32
  let v50 : BitVec 32 := Scalar.addi c0_i32_37 c2_i32_38
  let c1_i32_39 : BitVec 32 := 1#32
  ⟨c0_i32_37, v50, c1_i32_39⟩
def k0_off5 (k0_t3 : Fin k0_t3_loop.trips) (c_m384_i32 : BitVec 32) : Fin 2 → Nat :=
  let c0_55 : Index := 0#32
  let c0_i32_37 : BitVec 32 := 0#32
  let c1_i32_39 : BitVec 32 := 1#32
  let arg22 : BitVec 32 := Scf.iv c0_i32_37 c1_i32_39 k0_t3
  let c8192_i32 : BitVec 32 := 8192#32
  let v62 : BitVec 32 := Scalar.muli arg22 c8192_i32
  let c384_i32 : BitVec 32 := 384#32
  let v63 : BitVec 32 := Scalar.addi v62 c384_i32
  let v64 : BitVec 32 := Scalar.addi v63 c_m384_i32
  let v65 : Index := Scalar.indexCast v64
  ![0, v65.toNat]
def k0_off5_at (r : Fin 5) : BitVec 32 :=
  if r.val < 2 then
    if r.val < 1 then
      4294966912#32
    else
      4294967040#32
  else
    if r.val < 3 then
      4294967168#32
    else
      if r.val < 4 then
        0#32
      else
        128#32
def k0_off6 (k0_t3 : Fin k0_t3_loop.trips) : Fin 2 → Nat :=
  let c0_77 : Index := 0#32
  let c0_i32_37 : BitVec 32 := 0#32
  let c1_i32_39 : BitVec 32 := 1#32
  let arg22 : BitVec 32 := Scf.iv c0_i32_37 c1_i32_39 k0_t3
  let c8192_i32 : BitVec 32 := 8192#32
  let v62 : BitVec 32 := Scalar.muli arg22 c8192_i32
  let c384_i32_76 : BitVec 32 := 384#32
  let v223 : BitVec 32 := Scalar.addi v62 c384_i32_76
  let v224 : Index := Scalar.indexCast v223
  ![0, v224.toNat]
@[reducible] def k0_t4_loop : Scf.Loop 32 :=
  let c0_i32_51 : BitVec 32 := 0#32
  let c2_i32_52 : BitVec 32 := 2#32
  let v61 : BitVec 32 := Scalar.addi c0_i32_51 c2_i32_52
  let c1_i32_53 : BitVec 32 := 1#32
  ⟨c0_i32_51, v61, c1_i32_53⟩
def k0_off7 (k0_t4 : Fin k0_t4_loop.trips) (c_m384_i32 : BitVec 32) : Fin 2 → Nat :=
  let c0_55 : Index := 0#32
  let c0_i32_51 : BitVec 32 := 0#32
  let c1_i32_53 : BitVec 32 := 1#32
  let arg22 : BitVec 32 := Scf.iv c0_i32_51 c1_i32_53 k0_t4
  let c8192_i32 : BitVec 32 := 8192#32
  let v62 : BitVec 32 := Scalar.muli arg22 c8192_i32
  let c384_i32 : BitVec 32 := 384#32
  let v63 : BitVec 32 := Scalar.addi v62 c384_i32
  let v64 : BitVec 32 := Scalar.addi v63 c_m384_i32
  let v65 : Index := Scalar.indexCast v64
  ![0, v65.toNat]
def k0_off7_at (r : Fin 5) : BitVec 32 :=
  if r.val < 2 then
    if r.val < 1 then
      4294966912#32
    else
      4294967040#32
  else
    if r.val < 3 then
      4294967168#32
    else
      if r.val < 4 then
        0#32
      else
        128#32
def k0_off8 (k0_t4 : Fin k0_t4_loop.trips) : Fin 3 → Nat :=
  let c0_79 : Index := 0#32
  let c0_80 : Index := 0#32
  let c0_i32_51 : BitVec 32 := 0#32
  let c1_i32_53 : BitVec 32 := 1#32
  let arg22 : BitVec 32 := Scf.iv c0_i32_51 c1_i32_53 k0_t4
  let c8192_i32 : BitVec 32 := 8192#32
  let v62 : BitVec 32 := Scalar.muli arg22 c8192_i32
  let v230 : Index := Scalar.indexCast v62
  ![0, 0, v230.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x25 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x25 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S80x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x25 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x96 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x25 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x80x16384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x16384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S8x96x128x128 : Shape := ⟨4, ![8, 96, 128, 128]⟩
abbrev S96x1x5x5 : Shape := ⟨4, ![96, 1, 5, 5]⟩
abbrev S128x96x1x1 : Shape := ⟨4, ![128, 96, 1, 1]⟩
abbrev S128 : Shape := ⟨1, ![128]⟩
abbrev S128x1x5x5 : Shape := ⟨4, ![128, 1, 5, 5]⟩
abbrev S128x128x1x1 : Shape := ⟨4, ![128, 128, 1, 1]⟩
abbrev S80x128x1x1 : Shape := ⟨4, ![80, 128, 1, 1]⟩
abbrev S80 : Shape := ⟨1, ![80]⟩
abbrev S64x96x1x1 : Shape := ⟨4, ![64, 96, 1, 1]⟩
abbrev S64 : Shape := ⟨1, ![64]⟩
abbrev S64x1x5x5 : Shape := ⟨4, ![64, 1, 5, 5]⟩
abbrev S64x64x1x1 : Shape := ⟨4, ![64, 64, 1, 1]⟩
abbrev S4x64x1x1 : Shape := ⟨4, ![4, 64, 1, 1]⟩
abbrev S4 : Shape := ⟨1, ![4]⟩
abbrev S_ : Shape := ⟨0, ![]⟩
abbrev S8x96x132x132 : Shape := ⟨4, ![8, 96, 132, 132]⟩
abbrev S8x96x128x132 : Shape := ⟨4, ![8, 96, 128, 132]⟩
abbrev S8x96x1x128x132 : Shape := ⟨5, ![8, 96, 1, 128, 132]⟩
abbrev S8x96x5x128x132 : Shape := ⟨5, ![8, 96, 5, 128, 132]⟩
abbrev S8x96x5x128x128 : Shape := ⟨5, ![8, 96, 5, 128, 128]⟩
abbrev S8x96x5x1x128x128 : Shape := ⟨6, ![8, 96, 5, 1, 128, 128]⟩
abbrev S8x96x5x5x128x128 : Shape := ⟨6, ![8, 96, 5, 5, 128, 128]⟩
abbrev S96x5x5 : Shape := ⟨3, ![96, 5, 5]⟩
abbrev S1x96x5x5x1x1 : Shape := ⟨6, ![1, 96, 5, 5, 1, 1]⟩
abbrev S128x96 : Shape := ⟨2, ![128, 96]⟩
abbrev S8x128x128x128 : Shape := ⟨4, ![8, 128, 128, 128]⟩
abbrev S1x128x1x1 : Shape := ⟨4, ![1, 128, 1, 1]⟩
abbrev S8x128x132x132 : Shape := ⟨4, ![8, 128, 132, 132]⟩
abbrev S8x128x128x132 : Shape := ⟨4, ![8, 128, 128, 132]⟩
abbrev S8x128x1x128x132 : Shape := ⟨5, ![8, 128, 1, 128, 132]⟩
abbrev S8x128x5x128x132 : Shape := ⟨5, ![8, 128, 5, 128, 132]⟩
abbrev S8x128x5x128x128 : Shape := ⟨5, ![8, 128, 5, 128, 128]⟩
abbrev S8x128x5x1x128x128 : Shape := ⟨6, ![8, 128, 5, 1, 128, 128]⟩
abbrev S8x128x5x5x128x128 : Shape := ⟨6, ![8, 128, 5, 5, 128, 128]⟩
abbrev S128x5x5 : Shape := ⟨3, ![128, 5, 5]⟩
abbrev S1x128x5x5x1x1 : Shape := ⟨6, ![1, 128, 5, 5, 1, 1]⟩
abbrev S128x128 : Shape := ⟨2, ![128, 128]⟩
abbrev S80x128 : Shape := ⟨2, ![80, 128]⟩
abbrev S8x128x128x80 : Shape := ⟨4, ![8, 128, 128, 80]⟩
abbrev S8x80x128x128 : Shape := ⟨4, ![8, 80, 128, 128]⟩
abbrev S1x80x1x1 : Shape := ⟨4, ![1, 80, 1, 1]⟩
abbrev S64x96 : Shape := ⟨2, ![64, 96]⟩
abbrev S8x128x128x64 : Shape := ⟨4, ![8, 128, 128, 64]⟩
abbrev S8x64x128x128 : Shape := ⟨4, ![8, 64, 128, 128]⟩
abbrev S1x64x1x1 : Shape := ⟨4, ![1, 64, 1, 1]⟩
abbrev S8x64x132x132 : Shape := ⟨4, ![8, 64, 132, 132]⟩
abbrev S8x64x128x132 : Shape := ⟨4, ![8, 64, 128, 132]⟩
abbrev S8x64x1x128x132 : Shape := ⟨5, ![8, 64, 1, 128, 132]⟩
abbrev S8x64x5x128x132 : Shape := ⟨5, ![8, 64, 5, 128, 132]⟩
abbrev S8x64x5x128x128 : Shape := ⟨5, ![8, 64, 5, 128, 128]⟩
abbrev S8x64x5x1x128x128 : Shape := ⟨6, ![8, 64, 5, 1, 128, 128]⟩
abbrev S8x64x5x5x128x128 : Shape := ⟨6, ![8, 64, 5, 5, 128, 128]⟩
abbrev S64x5x5 : Shape := ⟨3, ![64, 5, 5]⟩
abbrev S1x64x5x5x1x1 : Shape := ⟨6, ![1, 64, 5, 5, 1, 1]⟩
abbrev S64x64 : Shape := ⟨2, ![64, 64]⟩
abbrev S4x64 : Shape := ⟨2, ![4, 64]⟩
abbrev S8x128x128x4 : Shape := ⟨4, ![8, 128, 128, 4]⟩
abbrev S8x4x128x128 : Shape := ⟨4, ![8, 4, 128, 128]⟩
abbrev S1x4x1x1 : Shape := ⟨4, ![1, 4, 1, 1]⟩

abbrev nBuf : Space → Nat
  | .hbm => 247
  | .vmem => 0
  | .smem => 0
  | _ => 0

abbrev hbmTy0_0 (i : Nat) : BufTy := match i % 128 with
  | 0 => ⟨S8x96x128x128, .f32⟩
  | 1 => ⟨S96x1x5x5, .f32⟩
  | 2 => ⟨S128x96x1x1, .f32⟩
  | 3 => ⟨S128, .f32⟩
  | 4 => ⟨S128x1x5x5, .f32⟩
  | 5 => ⟨S128x128x1x1, .f32⟩
  | 6 => ⟨S128, .f32⟩
  | 7 => ⟨S80x128x1x1, .f32⟩
  | 8 => ⟨S80, .f32⟩
  | 9 => ⟨S96x1x5x5, .f32⟩
  | 10 => ⟨S64x96x1x1, .f32⟩
  | 11 => ⟨S64, .f32⟩
  | 12 => ⟨S64x1x5x5, .f32⟩
  | 13 => ⟨S64x64x1x1, .f32⟩
  | 14 => ⟨S64, .f32⟩
  | 15 => ⟨S4x64x1x1, .f32⟩
  | 16 => ⟨S4, .f32⟩
  | 17 => ⟨S_, .i32⟩
  | 18 => ⟨S_, .f32⟩
  | 19 => ⟨S8x96x132x132, .f32⟩
  | 20 => ⟨S8x96x128x132, .f32⟩
  | 21 => ⟨S8x96x128x132, .f32⟩
  | 22 => ⟨S8x96x128x132, .f32⟩
  | 23 => ⟨S8x96x128x132, .f32⟩
  | 24 => ⟨S8x96x128x132, .f32⟩
  | 25 => ⟨S8x96x1x128x132, .f32⟩
  | 26 => ⟨S8x96x1x128x132, .f32⟩
  | 27 => ⟨S8x96x1x128x132, .f32⟩
  | 28 => ⟨S8x96x1x128x132, .f32⟩
  | 29 => ⟨S8x96x1x128x132, .f32⟩
  | 30 => ⟨S8x96x5x128x132, .f32⟩
  | 31 => ⟨S8x96x5x128x128, .f32⟩
  | 32 => ⟨S8x96x5x128x128, .f32⟩
  | 33 => ⟨S8x96x5x128x128, .f32⟩
  | 34 => ⟨S8x96x5x128x128, .f32⟩
  | 35 => ⟨S8x96x5x128x128, .f32⟩
  | 36 => ⟨S8x96x5x1x128x128, .f32⟩
  | 37 => ⟨S8x96x5x1x128x128, .f32⟩
  | 38 => ⟨S8x96x5x1x128x128, .f32⟩
  | 39 => ⟨S8x96x5x1x128x128, .f32⟩
  | 40 => ⟨S8x96x5x1x128x128, .f32⟩
  | 41 => ⟨S8x96x5x5x128x128, .f32⟩
  | 42 => ⟨S96x5x5, .f32⟩
  | 43 => ⟨S1x96x5x5x1x1, .f32⟩
  | 44 => ⟨S8x96x5x5x128x128, .f32⟩
  | 45 => ⟨S8x96x5x5x128x128, .f32⟩
  | 46 => ⟨S_, .f32⟩
  | 47 => ⟨S8x96x128x128, .f32⟩
  | 48 => ⟨S_, .f32⟩
  | 49 => ⟨S_, .f32⟩
  | 50 => ⟨S_, .f32⟩
  | 51 => ⟨S8x96x128x128, .f32⟩
  | 52 => ⟨S8x96x128x128, .f32⟩
  | 53 => ⟨S_, .f32⟩
  | 54 => ⟨S8x96x128x128, .f32⟩
  | 55 => ⟨S8x96x128x128, .f32⟩
  | 56 => ⟨S128x96, .f32⟩
  | 57 => ⟨S8x128x128x128, .f32⟩
  | 58 => ⟨S8x128x128x128, .f32⟩
  | 59 => ⟨S1x128x1x1, .f32⟩
  | 60 => ⟨S8x128x128x128, .f32⟩
  | 61 => ⟨S8x128x128x128, .f32⟩
  | 62 => ⟨S_, .f32⟩
  | 63 => ⟨S_, .f32⟩
  | 64 => ⟨S_, .f32⟩
  | 65 => ⟨S8x128x128x128, .f32⟩
  | 66 => ⟨S8x128x128x128, .f32⟩
  | 67 => ⟨S_, .f32⟩
  | 68 => ⟨S8x128x128x128, .f32⟩
  | 69 => ⟨S8x128x128x128, .f32⟩
  | 70 => ⟨S_, .i32⟩
  | 71 => ⟨S_, .f32⟩
  | 72 => ⟨S8x128x132x132, .f32⟩
  | 73 => ⟨S8x128x128x132, .f32⟩
  | 74 => ⟨S8x128x128x132, .f32⟩
  | 75 => ⟨S8x128x128x132, .f32⟩
  | 76 => ⟨S8x128x128x132, .f32⟩
  | 77 => ⟨S8x128x128x132, .f32⟩
  | 78 => ⟨S8x128x1x128x132, .f32⟩
  | 79 => ⟨S8x128x1x128x132, .f32⟩
  | 80 => ⟨S8x128x1x128x132, .f32⟩
  | 81 => ⟨S8x128x1x128x132, .f32⟩
  | 82 => ⟨S8x128x1x128x132, .f32⟩
  | 83 => ⟨S8x128x5x128x132, .f32⟩
  | 84 => ⟨S8x128x5x128x128, .f32⟩
  | 85 => ⟨S8x128x5x128x128, .f32⟩
  | 86 => ⟨S8x128x5x128x128, .f32⟩
  | 87 => ⟨S8x128x5x128x128, .f32⟩
  | 88 => ⟨S8x128x5x128x128, .f32⟩
  | 89 => ⟨S8x128x5x1x128x128, .f32⟩
  | 90 => ⟨S8x128x5x1x128x128, .f32⟩
  | 91 => ⟨S8x128x5x1x128x128, .f32⟩
  | 92 => ⟨S8x128x5x1x128x128, .f32⟩
  | 93 => ⟨S8x128x5x1x128x128, .f32⟩
  | 94 => ⟨S8x128x5x5x128x128, .f32⟩
  | 95 => ⟨S128x5x5, .f32⟩
  | 96 => ⟨S1x128x5x5x1x1, .f32⟩
  | 97 => ⟨S8x128x5x5x128x128, .f32⟩
  | 98 => ⟨S8x128x5x5x128x128, .f32⟩
  | 99 => ⟨S_, .f32⟩
  | 100 => ⟨S8x128x128x128, .f32⟩
  | 101 => ⟨S_, .f32⟩
  | 102 => ⟨S_, .f32⟩
  | 103 => ⟨S_, .f32⟩
  | 104 => ⟨S8x128x128x128, .f32⟩
  | 105 => ⟨S8x128x128x128, .f32⟩
  | 106 => ⟨S_, .f32⟩
  | 107 => ⟨S8x128x128x128, .f32⟩
  | 108 => ⟨S8x128x128x128, .f32⟩
  | 109 => ⟨S128x128, .f32⟩
  | 110 => ⟨S8x128x128x128, .f32⟩
  | 111 => ⟨S8x128x128x128, .f32⟩
  | 112 => ⟨S1x128x1x1, .f32⟩
  | 113 => ⟨S8x128x128x128, .f32⟩
  | 114 => ⟨S8x128x128x128, .f32⟩
  | 115 => ⟨S_, .f32⟩
  | 116 => ⟨S_, .f32⟩
  | 117 => ⟨S_, .f32⟩
  | 118 => ⟨S8x128x128x128, .f32⟩
  | 119 => ⟨S8x128x128x128, .f32⟩
  | 120 => ⟨S_, .f32⟩
  | 121 => ⟨S8x128x128x128, .f32⟩
  | 122 => ⟨S8x128x128x128, .f32⟩
  | 123 => ⟨S80x128, .f32⟩
  | 124 => ⟨S8x128x128x80, .f32⟩
  | 125 => ⟨S8x80x128x128, .f32⟩
  | 126 => ⟨S1x80x1x1, .f32⟩
  | 127 => ⟨S8x80x128x128, .f32⟩
  | _ => ⟨S8x96x128x128, .f32⟩

abbrev hbmTy0_1 (i : Nat) : BufTy := match i % 128 with
  | 0 => ⟨S8x80x128x128, .f32⟩
  | 1 => ⟨S_, .i32⟩
  | 2 => ⟨S_, .f32⟩
  | 3 => ⟨S8x96x132x132, .f32⟩
  | 4 => ⟨S8x96x128x132, .f32⟩
  | 5 => ⟨S8x96x128x132, .f32⟩
  | 6 => ⟨S8x96x128x132, .f32⟩
  | 7 => ⟨S8x96x128x132, .f32⟩
  | 8 => ⟨S8x96x128x132, .f32⟩
  | 9 => ⟨S8x96x1x128x132, .f32⟩
  | 10 => ⟨S8x96x1x128x132, .f32⟩
  | 11 => ⟨S8x96x1x128x132, .f32⟩
  | 12 => ⟨S8x96x1x128x132, .f32⟩
  | 13 => ⟨S8x96x1x128x132, .f32⟩
  | 14 => ⟨S8x96x5x128x132, .f32⟩
  | 15 => ⟨S8x96x5x128x128, .f32⟩
  | 16 => ⟨S8x96x5x128x128, .f32⟩
  | 17 => ⟨S8x96x5x128x128, .f32⟩
  | 18 => ⟨S8x96x5x128x128, .f32⟩
  | 19 => ⟨S8x96x5x128x128, .f32⟩
  | 20 => ⟨S8x96x5x1x128x128, .f32⟩
  | 21 => ⟨S8x96x5x1x128x128, .f32⟩
  | 22 => ⟨S8x96x5x1x128x128, .f32⟩
  | 23 => ⟨S8x96x5x1x128x128, .f32⟩
  | 24 => ⟨S8x96x5x1x128x128, .f32⟩
  | 25 => ⟨S8x96x5x5x128x128, .f32⟩
  | 26 => ⟨S96x5x5, .f32⟩
  | 27 => ⟨S1x96x5x5x1x1, .f32⟩
  | 28 => ⟨S8x96x5x5x128x128, .f32⟩
  | 29 => ⟨S8x96x5x5x128x128, .f32⟩
  | 30 => ⟨S_, .f32⟩
  | 31 => ⟨S8x96x128x128, .f32⟩
  | 32 => ⟨S_, .f32⟩
  | 33 => ⟨S_, .f32⟩
  | 34 => ⟨S_, .f32⟩
  | 35 => ⟨S8x96x128x128, .f32⟩
  | 36 => ⟨S8x96x128x128, .f32⟩
  | 37 => ⟨S_, .f32⟩
  | 38 => ⟨S8x96x128x128, .f32⟩
  | 39 => ⟨S8x96x128x128, .f32⟩
  | 40 => ⟨S64x96, .f32⟩
  | 41 => ⟨S8x128x128x64, .f32⟩
  | 42 => ⟨S8x64x128x128, .f32⟩
  | 43 => ⟨S1x64x1x1, .f32⟩
  | 44 => ⟨S8x64x128x128, .f32⟩
  | 45 => ⟨S8x64x128x128, .f32⟩
  | 46 => ⟨S_, .f32⟩
  | 47 => ⟨S_, .f32⟩
  | 48 => ⟨S_, .f32⟩
  | 49 => ⟨S8x64x128x128, .f32⟩
  | 50 => ⟨S8x64x128x128, .f32⟩
  | 51 => ⟨S_, .f32⟩
  | 52 => ⟨S8x64x128x128, .f32⟩
  | 53 => ⟨S8x64x128x128, .f32⟩
  | 54 => ⟨S_, .i32⟩
  | 55 => ⟨S_, .f32⟩
  | 56 => ⟨S8x64x132x132, .f32⟩
  | 57 => ⟨S8x64x128x132, .f32⟩
  | 58 => ⟨S8x64x128x132, .f32⟩
  | 59 => ⟨S8x64x128x132, .f32⟩
  | 60 => ⟨S8x64x128x132, .f32⟩
  | 61 => ⟨S8x64x128x132, .f32⟩
  | 62 => ⟨S8x64x1x128x132, .f32⟩
  | 63 => ⟨S8x64x1x128x132, .f32⟩
  | 64 => ⟨S8x64x1x128x132, .f32⟩
  | 65 => ⟨S8x64x1x128x132, .f32⟩
  | 66 => ⟨S8x64x1x128x132, .f32⟩
  | 67 => ⟨S8x64x5x128x132, .f32⟩
  | 68 => ⟨S8x64x5x128x128, .f32⟩
  | 69 => ⟨S8x64x5x128x128, .f32⟩
  | 70 => ⟨S8x64x5x128x128, .f32⟩
  | 71 => ⟨S8x64x5x128x128, .f32⟩
  | 72 => ⟨S8x64x5x128x128, .f32⟩
  | 73 => ⟨S8x64x5x1x128x128, .f32⟩
  | 74 => ⟨S8x64x5x1x128x128, .f32⟩
  | 75 => ⟨S8x64x5x1x128x128, .f32⟩
  | 76 => ⟨S8x64x5x1x128x128, .f32⟩
  | 77 => ⟨S8x64x5x1x128x128, .f32⟩
  | 78 => ⟨S8x64x5x5x128x128, .f32⟩
  | 79 => ⟨S64x5x5, .f32⟩
  | 80 => ⟨S1x64x5x5x1x1, .f32⟩
  | 81 => ⟨S8x64x5x5x128x128, .f32⟩
  | 82 => ⟨S8x64x5x5x128x128, .f32⟩
  | 83 => ⟨S_, .f32⟩
  | 84 => ⟨S8x64x128x128, .f32⟩
  | 85 => ⟨S_, .f32⟩
  | 86 => ⟨S_, .f32⟩
  | 87 => ⟨S_, .f32⟩
  | 88 => ⟨S8x64x128x128, .f32⟩
  | 89 => ⟨S8x64x128x128, .f32⟩
  | 90 => ⟨S_, .f32⟩
  | 91 => ⟨S8x64x128x128, .f32⟩
  | 92 => ⟨S8x64x128x128, .f32⟩
  | 93 => ⟨S64x64, .f32⟩
  | 94 => ⟨S8x128x128x64, .f32⟩
  | 95 => ⟨S8x64x128x128, .f32⟩
  | 96 => ⟨S1x64x1x1, .f32⟩
  | 97 => ⟨S8x64x128x128, .f32⟩
  | 98 => ⟨S8x64x128x128, .f32⟩
  | 99 => ⟨S_, .f32⟩
  | 100 => ⟨S_, .f32⟩
  | 101 => ⟨S_, .f32⟩
  | 102 => ⟨S8x64x128x128, .f32⟩
  | 103 => ⟨S8x64x128x128, .f32⟩
  | 104 => ⟨S_, .f32⟩
  | 105 => ⟨S8x64x128x128, .f32⟩
  | 106 => ⟨S8x64x128x128, .f32⟩
  | 107 => ⟨S4x64, .f32⟩
  | 108 => ⟨S8x128x128x4, .f32⟩
  | 109 => ⟨S8x4x128x128, .f32⟩
  | 110 => ⟨S1x4x1x1, .f32⟩
  | 111 => ⟨S8x4x128x128, .f32⟩
  | 112 => ⟨S8x4x128x128, .f32⟩
  | 113 => ⟨S_, .f32⟩
  | 114 => ⟨S8x4x128x128, .f32⟩
  | 115 => ⟨S8x4x128x128, .f32⟩
  | 116 => ⟨S_, .f32⟩
  | 117 => ⟨S8x4x128x128, .f32⟩
  | 118 => ⟨S8x4x128x128, .f32⟩
  | _ => ⟨S8x96x128x128, .f32⟩

abbrev hbmTy (i : Nat) : BufTy := match i / 128 with
  | 0 => hbmTy0_0 i
  | 1 => hbmTy0_1 i
  | _ => ⟨S8x96x128x128, .f32⟩

abbrev bufTy : (tb : Table) → Fin (tcTables nBuf tb) → BufTy
  | .hbm, ⟨i, _⟩ => hbmTy i
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_cst_0 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_cst_3 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v35 : Ref sig .tc := ⟨.hbm, 69, rfl⟩
abbrev main_c_4 : Ref sig .tc := ⟨.hbm, 70, rfl⟩
abbrev main_call3_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_5 : Ref sig .tc := ⟨.hbm, 99, rfl⟩
abbrev main_v63 : Ref sig .tc := ⟨.hbm, 100, rfl⟩
abbrev main_cst_6 : Ref sig .tc := ⟨.hbm, 101, rfl⟩
abbrev main_cst_7 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_8 : Ref sig .tc := ⟨.hbm, 115, rfl⟩
abbrev main_cst_9 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_10 : Ref sig .tc := ⟨.hbm, 129, rfl⟩
abbrev main_call6_v0 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_11 : Ref sig .tc := ⟨.hbm, 158, rfl⟩
abbrev main_v105 : Ref sig .tc := ⟨.hbm, 159, rfl⟩
abbrev main_cst_12 : Ref sig .tc := ⟨.hbm, 160, rfl⟩
abbrev main_cst_13 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_14 : Ref sig .tc := ⟨.hbm, 174, rfl⟩
abbrev main_cst_15 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v113 : Ref sig .tc := ⟨.hbm, 181, rfl⟩
abbrev main_c_16 : Ref sig .tc := ⟨.hbm, 182, rfl⟩
abbrev main_call9_v0 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_17 : Ref sig .tc := ⟨.hbm, 211, rfl⟩
abbrev main_v141 : Ref sig .tc := ⟨.hbm, 212, rfl⟩
abbrev main_cst_18 : Ref sig .tc := ⟨.hbm, 213, rfl⟩
abbrev main_cst_19 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_20 : Ref sig .tc := ⟨.hbm, 227, rfl⟩
abbrev main_cst_21 : Ref sig .tc := ⟨.hbm, 228, rfl⟩
abbrev main_call11_v0 : Ref sig .tc := ⟨.hbm, 229, rfl⟩
abbrev main_call11_v1 : Ref sig .tc := ⟨.hbm, 230, rfl⟩
abbrev main_call11_v2 : Ref sig .tc := ⟨.hbm, 231, rfl⟩
abbrev main_call11_v3 : Ref sig .tc := ⟨.hbm, 232, rfl⟩
abbrev main_call11_v4 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_call12_cst : Ref sig .tc := ⟨.hbm, 241, rfl⟩
abbrev main_call12_v0 : Ref sig .tc := ⟨.hbm, 242, rfl⟩
abbrev main_v156 : Ref sig .tc := ⟨.hbm, 243, rfl⟩
abbrev main_cst_22 : Ref sig .tc := ⟨.hbm, 244, rfl⟩
abbrev main_v157 : Ref sig .tc := ⟨.hbm, 245, rfl⟩
abbrev main_v158 : Ref sig .tc := ⟨.hbm, 246, rfl⟩

abbrev nD : Nat := 1
abbrev τ : Topo := Topo.v7x

variable {F : FTy → Type} [FloatOps F]
-- ==== Proof.KernelRuns.lean ====
/- What the runs of the TPU program at word level share: the host lines around its launch, the branch conditions in
   closed form, the memrefs its body is given. The outputs' contents are named nowhere here: the claim made of this program
   is its frame alone. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- the rectangles here have long axes
set_option maxRecDepth 16384

noncomputable section

namespace Cert.Kernel.Track

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_call0_v36, main_v0_0, main_v0_1}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x96x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x25 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x96 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x25 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S80x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S80x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x25 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x96 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x25 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x64 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x64 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x80x16384 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x8x16384 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S96x17152 .bf16 := Memref.whole cc0_scratch0
abbrev scM0_1 : Memref sig .tc .vmem S128x17152 .bf16 := Memref.whole cc0_scratch1
/-- The scratch `arg20` the kernel carries between points, as a view: what it holds is stated through it. -/
abbrev VS0_0 : View sig .tc .vmem S96x17152 .bf16 := scM0_0.view
/-- The scratch `arg21` the kernel carries between points, as a view: what it holds is stated through it. -/
abbrev VS0_1 : View sig .tc .vmem S128x17152 .bf16 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Track

end
-- ==== Proof.KernelRunA.lean ====
/- The body's run at the grid's first point, where it clears its two scratch buffers' margins: the triple, with what
   its stores leave. -/
module

public import proofs.«01_k».proof.Proof.KernelRuns

@[expose] public section

-- the rectangles here have long axes
set_option maxRecDepth 16384

noncomputable section

namespace Cert.Kernel.Track

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (17, 18) at anything, handed back at some contents nothing names. -/
noncomputable def kernelRun0_A (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) :
    Σ' (LS0 : List (View.Piece (Elt F) S96x17152 .bf16)), { LS1 : List (View.Piece (Elt F) S128x17152 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__ttf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__ttf_kernel_eq_skeleton]; unfold cc0__ttf_kernel_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [HS0]; · iexists _; iexact HS0
    iexists _; iexact HS1

end Cert.Kernel.Track

end
-- ==== Proof.KernelRunB.lean ====
/- The body's run at a later point: the triple, with what its stores leave. -/
module

public import proofs.«01_k».proof.Proof.KernelRunA

@[expose] public section

-- the rectangles here have long axes
set_option maxRecDepth 16384

noncomputable section

namespace Cert.Kernel.Track

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (17, 18) at anything, handed back at some contents nothing names. -/
noncomputable def kernelRun0_B (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : ¬cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) (xs0 : Vec F S96x17152 .bf16) (xs1 : Vec F S128x17152 .bf16) :
    Σ' (LS0 : List (View.Piece (Elt F) S96x17152 .bf16)), { LS1 : List (View.Piece (Elt F) S128x17152 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (arg20.view.loc (c : Thread nD τ) ↦[arg20.view.set]{fullShare} arg20.view.writes (Elt F) (harg20.unread xs0) LS0) ∗ (arg21.view.loc (c : Thread nD τ) ↦[arg21.view.set]{fullShare} arg21.view.writes (Elt F) (harg21.unread xs1) LS1)) -∗ K ⟨⟩))
          ⊢ wp frame (wpE (defs₀ (F := F)) Variants.none c none) E (cc0__ttf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__ttf_kernel_eq_skeleton]; unfold cc0__ttf_kernel_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs0; obtain rfl := harg21.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [HS0]; · iexact HS0
    iexact HS1

end Cert.Kernel.Track

end
-- ==== Proof.KernelFrame.lean ====
/- The frame of the TPU program at word level: the body obligation over both cases, the launch, and from them that every
   run ends, with its arguments unchanged and its counters at zero. -/
module

public import proofs.«01_k».proof.Proof.KernelRunB
public import Idealize.ShloMosaic.Lib.Claim

@[expose] public section

-- the rectangles here have long axes
set_option maxRecDepth 16384

noncomputable section

namespace Cert.Kernel.Track

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg20`, which the kernel carries between points, cover it: 3 pieces (stores and landed copies) of several sizes (`S96x16384`, `S96x384`) tiling it when cut into blocks of `![96, 128]` (Lib/Ring.lean `Piece.tiledBy`). -/
theorem scover0_A_0 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) (y : S96x17152.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).1 ![96, 128] (by sl_kernel_rfl) y

/-- What case A leaves in scratch `arg20`: its pieces read back over junk. -/
def sout0_A_0 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) : Vec F S96x17152 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).1)

/-- Case A's pieces for scratch `arg21`, which the kernel carries between points, cover it: 6 pieces (stores and landed copies) of several sizes (`S128x384`, `S128x8192`, `S64x8192`) tiling it when cut into blocks of `![64, 128]` (Lib/Ring.lean `Piece.tiledBy`). -/
theorem scover0_A_1 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) (y : S128x17152.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).2.1 ![64, 128] (by sl_kernel_rfl) y

/-- What case A leaves in scratch `arg21`: its pieces read back over junk. -/
def sout0_A_1 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) : Vec F S128x17152 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16).2.1)

/-- What case B leaves in scratch `arg20`: its pieces (stores, a counted loop's segment) read back over what the point before left there, which it read first. -/
def sout0_B_0 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : ¬cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) (xs0 : Vec F S96x17152 .bf16) (xs1 : Vec F S128x17152 .bf16) : Vec F S96x17152 .bf16 :=
  arg20.view.read (Elt F) (arg20.view.writes (Elt F) (harg20.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1).1)

/-- What case B leaves in scratch `arg21`: its pieces (stores, a counted loop's segment) read back over what the point before left there, which it read first. -/
def sout0_B_1 (c : Dev nD) (i : grid0.Coords) (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole) (hc0 : ¬cond0_0 i)
    (x0 : Vec F S1x96x16384 .f32) (x1 : Vec F S96x25 .bf16) (x2 : Vec F S128x96 .bf16) (x3 : Vec F S128x1 .f32) (x4 : Vec F S128x25 .bf16) (x5 : Vec F S128x128 .bf16) (x6 : Vec F S128x1 .f32) (x7 : Vec F S80x128 .bf16) (x8 : Vec F S80x1 .f32) (x9 : Vec F S96x25 .bf16) (x10 : Vec F S64x96 .bf16) (x11 : Vec F S64x1 .f32) (x12 : Vec F S64x25 .bf16) (x13 : Vec F S64x64 .bf16) (x14 : Vec F S64x1 .f32) (x15 : Vec F S8x64 .bf16) (x16 : Vec F S8x1 .f32) (xs0 : Vec F S96x17152 .bf16) (xs1 : Vec F S128x17152 .bf16) : Vec F S128x17152 .bf16 :=
  arg21.view.read (Elt F) (arg21.view.writes (Elt F) (harg21.unread xs1) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S96x17152 .bf16 × Vec F S128x17152 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩))
  | n + 1, hn =>
    if h0 : (n + 1) % 8 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 8 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The output windows this certificate FORGETS (17, 18): nothing reads what the kernel leaves in them, so nothing
    of it is named (Lib/Pipeline/Dat.lean `Dat.toRForget`). -/
def forgets0 : Fin 19 → Bool := fun w => w.val == 17 || w.val == 18

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [HS0]; · iexact HS0
      isplitl [HS1]; · iexact HS1
      iintro ⟨H0, H1, H2, H3, H4, H5, H6, H7, H8, H9, H10, H11, H12, H13, H14, H15, H16, H17, H18, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [HS0]; · iexact HS0
      isplitl [HS1]; · iexact HS1
      iintro ⟨H0, H1, H2, H3, H4, H5, H6, H7, H8, H9, H10, H11, H12, H13, H14, H15, H16, H17, H18, HS0, HS1⟩
      isplitl [HS0 HS1 Hg]
      · isplitl [HS0 HS1]
        · isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 17, 18) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (fun c => (dats m 0 c).toRForget forgets0) (A_eq m) (run_main m ρ)

/-- The frame: every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel.Track

end
-- ==== Proof.Conv.lean ====
/- The convolution stages written plainly over the extended reals, with no tensors in them. A row of pixels is a function
   of a flat column number: the 128 by 128 image sits at columns 384 to 16767, and the columns on either side are padding. -/
module

public import Idealize.ShloMosaic.Lib.Pointwise
public import Idealize.ShloMosaic.Lib.WordCmp

@[expose] public section

set_option maxRecDepth 16384

noncomputable section

namespace Cert.Conv

open Idealize.ShloMosaic

/-- The upper bound of every clip, as the number the 32-bit constant denotes. -/
def six : EReal := Ideal.ofBits .f32 1086324736#32

/-- The 16-bit constant denotes the same number. -/
theorem six_bf16 : Ideal.ofBits .bf16 16576#16 = six := by
  have h : Ideal.ofBits .bf16 16576#16 = ((6 : ℝ) : EReal) := by simp [Ideal.ofBits, Ideal.ieee, -EReal.coe_mul]; norm_num
  have h' : six = ((6 : ℝ) : EReal) := by unfold six; simp [Ideal.ofBits, Ideal.ieee, -EReal.coe_mul]; norm_num
  rw [h, h']

/-- Clip to the range from zero to six. -/
def clip (x : EReal) : EReal := min six (max 0 x)

/-- One column of the five by five window: five vertical taps, 128 columns apart, starting at column `s`. -/
def taps (X : ℕ → EReal) (s : ℕ) (k0 k1 k2 k3 k4 : EReal) : EReal :=
  X s * k0 + X (s + 128) * k1 + X (s + 256) * k2 + X (s + 384) * k3 + X (s + 512) * k4

/-- The clipped depthwise window at pixel `p`: the centre column, then each outer column unless it falls outside the image's row. -/
def dw (X : ℕ → EReal) (k : Fin 25 → EReal) (p : ℕ) : EReal :=
  clip (taps X (p + 128) (k 2) (k 7) (k 12) (k 17) (k 22)
    + (if 2 ≤ p % 128 then taps X (p + 126) (k 0) (k 5) (k 10) (k 15) (k 20) else 0)
    + (if 1 ≤ p % 128 then taps X (p + 127) (k 1) (k 6) (k 11) (k 16) (k 21) else 0)
    + (if p % 128 < 127 then taps X (p + 129) (k 3) (k 8) (k 13) (k 18) (k 23) else 0)
    + (if p % 128 < 126 then taps X (p + 130) (k 4) (k 9) (k 14) (k 19) (k 24) else 0))

/-- A depthwise window followed by a channel mix, a bias and a clip. -/
def lite {C O : ℕ} (k : Fin C → Fin 25 → EReal) (w : Fin O → Fin C → EReal) (b : Fin O → EReal)
    (X : Fin C → ℕ → EReal) (o : Fin O) (p : ℕ) : EReal :=
  clip (∑ c, w o c * dw (X c) (k c) p + b o)

/-- An image's row surrounded by zero padding. -/
def padded (h : ℕ → EReal) (j : ℕ) : EReal := if 384 ≤ j ∧ j < 16768 then h (j - 384) else 0

/-- The last channel mix with its bias. -/
def head {C O : ℕ} (w : Fin O → Fin C → EReal) (b : Fin O → EReal) (h : Fin C → ℕ → EReal) (o : Fin O) (p : ℕ) : EReal :=
  ∑ c, w o c * h c p + b o

/-- A masked sum in the words a lane comparison prints is the sum behind the plain comparison. -/
theorem masked {lane : ℕ} (h : lane < 128) (x : EReal) :
    Scalar.select (IntOp.cmpi CmpIPredicate.sge (BitVec.ofNat 32 lane) 2#32) x 0 = (if 2 ≤ lane then x else 0)
    ∧ Scalar.select (IntOp.cmpi CmpIPredicate.sge (BitVec.ofNat 32 lane) 1#32) x 0 = (if 1 ≤ lane then x else 0)
    ∧ Scalar.select (IntOp.cmpi CmpIPredicate.slt (BitVec.ofNat 32 lane) 127#32) x 0 = (if lane < 127 then x else 0)
    ∧ Scalar.select (IntOp.cmpi CmpIPredicate.slt (BitVec.ofNat 32 lane) 126#32) x 0 = (if lane < 126 then x else 0) := by
  refine ⟨?_, ?_, ?_, ?_⟩ <;> simp (disch := omega) only [hlo_ix]

/-- The depthwise window with its lane test in words and its taps written out, over five rows read at column offsets from
    their starts, is `dw` at the pixel the lane stands for. -/
theorem dw_words (X : ℕ → EReal) (k : Fin 25 → EReal) (p base : ℕ) (hb : base % 128 = 0) (q : Fin 8192) (hp : p = base + q.val)
    (lane : BitVec 32) (hl : lane = BitVec.ofNat 32 (q.val % 128)) (R : ℕ → ℕ → EReal) (hR : ∀ a y, R a y = X (base + 128 * a + y)) :
    min (Ideal.ofBits .bf16 16576#16) (max 0
      (R 0 (128 + q.val) * k 2 + R 1 (128 + q.val) * k 7 + R 2 (128 + q.val) * k 12 + R 3 (128 + q.val) * k 17 + R 4 (128 + q.val) * k 22
        + Scalar.select (IntOp.cmpi CmpIPredicate.sge lane 2#32)
            (R 0 (126 + q.val) * k 0 + R 1 (126 + q.val) * k 5 + R 2 (126 + q.val) * k 10 + R 3 (126 + q.val) * k 15 + R 4 (126 + q.val) * k 20) 0
        + Scalar.select (IntOp.cmpi CmpIPredicate.sge lane 1#32)
            (R 0 (127 + q.val) * k 1 + R 1 (127 + q.val) * k 6 + R 2 (127 + q.val) * k 11 + R 3 (127 + q.val) * k 16 + R 4 (127 + q.val) * k 21) 0
        + Scalar.select (IntOp.cmpi CmpIPredicate.slt lane 127#32)
            (R 0 (129 + q.val) * k 3 + R 1 (129 + q.val) * k 8 + R 2 (129 + q.val) * k 13 + R 3 (129 + q.val) * k 18 + R 4 (129 + q.val) * k 23) 0
        + Scalar.select (IntOp.cmpi CmpIPredicate.slt lane 126#32)
            (R 0 (130 + q.val) * k 4 + R 1 (130 + q.val) * k 9 + R 2 (130 + q.val) * k 14 + R 3 (130 + q.val) * k 19 + R 4 (130 + q.val) * k 24) 0))
      = dw X k p := by
  subst hl
  have e : ∀ a s : ℕ, R a (s + q.val) = X (p + s + 128 * a) := fun a s => by rw [hR]; congr 1; omega
  have hm : p % 128 = q.val % 128 := by omega
  simp only [(masked (Nat.mod_lt q.val (by norm_num : 0 < 128)) _).1, (masked (Nat.mod_lt q.val (by norm_num : 0 < 128)) _).2.1,
    (masked (Nat.mod_lt q.val (by norm_num : 0 < 128)) _).2.2.1, (masked (Nat.mod_lt q.val (by norm_num : 0 < 128)) _).2.2.2,
    e, six_bf16, dw, clip, taps, hm, Nat.mul_zero, Nat.mul_one, Nat.add_zero, Nat.reduceMul]

end Cert.Conv
-- ==== Proof.Chunk.lean ====
/- The arithmetic of the kernel's four loops, one pixel at a time: what each stored value is at an index, in the plain
   functions of the convolution stages. -/
module

public import proofs.«01_k».proof.Proof.Gen.KernelIdeal.Skeleton
public import proofs.«01_k».proof.Proof.Conv

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Conv

variable {F : FTy → Type} [FloatOps F]

/-- The lane number of every column of a chunk: its column modulo 128. -/
theorem lane_at (q : Fin 8192) : k0_pay58 (ix2 (0 : Fin 1) q) = BitVec.ofNat 32 (q.val % 128) := by
  pointwise [k0_pay58]
  revert q
  decide +kernel

/-- The depthwise chunk over 96 channels, from the five rows of taps. -/
def dw96 (wl : IVec S1x8192 32) (k : FVec F S96x25 .bf16) (L0 L1 L2 L3 L4 : FVec F S96x8448 .bf16) : FVec F S96x8192 .bf16 :=
  k0_pay14 wl k (k0_pay8 k (k0_pay3 k L0 L1) L2 L3) (k0_pay9 k (k0_pay4 k L0 L1) L2 L3)
    (k0_pay10 k (k0_pay5 k L0 L1) L2 L3) (k0_pay11 k (k0_pay6 k L0 L1) L2 L3) L4
    (k0_pay12 k (k0_pay2 k L0 L1) L2 (k0_pay7 k) L3 L4) (k0_pay13 k L4)

/-- The depthwise chunk over 128 channels. -/
def dw128 (wl : IVec S1x8192 32) (k : FVec F S128x25 .bf16) (L0 L1 L2 L3 L4 : FVec F S128x8448 .bf16) : FVec F S128x8192 .bf16 :=
  k0_pay27 wl k (k0_pay21 k (k0_pay16 k L0 L1) L2 L3) (k0_pay22 k (k0_pay17 k L0 L1) L2 L3)
    (k0_pay23 k (k0_pay18 k L0 L1) L2 L3) (k0_pay24 k (k0_pay19 k L0 L1) L2 L3) L4
    (k0_pay25 k (k0_pay15 k L0 L1) L2 (k0_pay20 k) L3 L4) (k0_pay26 k L4)

/-- The depthwise chunk over 96 channels, as the second head writes it. -/
def dw96b (wl : IVec S1x8192 32) (k : FVec F S96x25 .bf16) (L0 L1 L2 L3 L4 : FVec F S96x8448 .bf16) : FVec F S96x8192 .bf16 :=
  k0_pay40 wl k (k0_pay34 k (k0_pay29 k L0 L1) L2 L3) (k0_pay35 k (k0_pay30 k L0 L1) L2 L3)
    (k0_pay36 k (k0_pay31 k L0 L1) L2 L3) (k0_pay37 k (k0_pay32 k L0 L1) L2 L3) L4
    (k0_pay38 k (k0_pay28 k L0 L1) L2 (k0_pay33 k) L3 L4) (k0_pay39 k L4)

/-- The depthwise chunk over 64 channels. -/
def dw64 (wl : IVec S1x8192 32) (k : FVec F S64x25 .bf16) (L0 L1 L2 L3 L4 : FVec F S64x8448 .bf16) : FVec F S64x8192 .bf16 :=
  k0_pay53 wl k (k0_pay47 k (k0_pay42 k L0 L1) L2 L3) (k0_pay48 k (k0_pay43 k L0 L1) L2 L3)
    (k0_pay49 k (k0_pay44 k L0 L1) L2 L3) (k0_pay50 k (k0_pay45 k L0 L1) L2 L3) L4
    (k0_pay51 k (k0_pay41 k L0 L1) L2 (k0_pay46 k) L3 L4) (k0_pay52 k L4)

theorem dw96b_eq : @dw96b F _ = @dw96 F _ := rfl

/-- The chunk over 96 channels at a pixel, when its five rows are read from `X` at successive image rows. -/
theorem dw96_at (k : FVec Ideal S96x25 .bf16) (L : Fin 5 → FVec Ideal S96x8448 .bf16) (X : Fin 96 → ℕ → EReal) (base : ℕ) (hb : base % 128 = 0)
    (hL : ∀ (a : Fin 5) (c : Fin 96) (y : Fin 8448), L a (ix2 c y) = X c (base + 128 * a.val + y.val)) (c : Fin 96) (q : Fin 8192) :
    dw96 k0_pay58 k (L 0) (L 1) (L 2) (L 3) (L 4) (ix2 c q) = dw (X c) (fun t => k (ix2 c t)) (base + q.val) := by
  pointwise [dw96, k0_pay2, k0_pay3, k0_pay4, k0_pay5, k0_pay6, k0_pay7, k0_pay8, k0_pay9, k0_pay10, k0_pay11, k0_pay12, k0_pay13, k0_pay14]
  simp only [hL]
  exact dw_words (X c) (fun t => k (ix2 c t)) (base + q.val) base hb q rfl _ (lane_at q) (fun a y => X c (base + 128 * a + y)) (fun _ _ => rfl)

/-- The chunk over 128 channels at a pixel, when its five rows are read from `X` at successive image rows. -/
theorem dw128_at (k : FVec Ideal S128x25 .bf16) (L : Fin 5 → FVec Ideal S128x8448 .bf16) (X : Fin 128 → ℕ → EReal) (base : ℕ) (hb : base % 128 = 0)
    (hL : ∀ (a : Fin 5) (c : Fin 128) (y : Fin 8448), L a (ix2 c y) = X c (base + 128 * a.val + y.val)) (c : Fin 128) (q : Fin 8192) :
    dw128 k0_pay58 k (L 0) (L 1) (L 2) (L 3) (L 4) (ix2 c q) = dw (X c) (fun t => k (ix2 c t)) (base + q.val) := by
  pointwise [dw128, k0_pay15, k0_pay16, k0_pay17, k0_pay18, k0_pay19, k0_pay20, k0_pay21, k0_pay22, k0_pay23, k0_pay24, k0_pay25, k0_pay26, k0_pay27]
  simp only [hL]
  exact dw_words (X c) (fun t => k (ix2 c t)) (base + q.val) base hb q rfl _ (lane_at q) (fun a y => X c (base + 128 * a + y)) (fun _ _ => rfl)

/-- The chunk over 64 channels at a pixel, when its five rows are read from `X` at successive image rows. -/
theorem dw64_at (k : FVec Ideal S64x25 .bf16) (L : Fin 5 → FVec Ideal S64x8448 .bf16) (X : Fin 64 → ℕ → EReal) (base : ℕ) (hb : base % 128 = 0)
    (hL : ∀ (a : Fin 5) (c : Fin 64) (y : Fin 8448), L a (ix2 c y) = X c (base + 128 * a.val + y.val)) (c : Fin 64) (q : Fin 8192) :
    dw64 k0_pay58 k (L 0) (L 1) (L 2) (L 3) (L 4) (ix2 c q) = dw (X c) (fun t => k (ix2 c t)) (base + q.val) := by
  pointwise [dw64, k0_pay41, k0_pay42, k0_pay43, k0_pay44, k0_pay45, k0_pay46, k0_pay47, k0_pay48, k0_pay49, k0_pay50, k0_pay51, k0_pay52, k0_pay53]
  simp only [hL]
  exact dw_words (X c) (fun t => k (ix2 c t)) (base + q.val) base hb q rfl _ (lane_at q) (fun a y => X c (base + 128 * a + y)) (fun _ _ => rfl)

/-- The channel mix from 96 to 128 channels at a pixel. -/
theorem mix128_at (w : Vec Ideal S128x96 .bf16) (b : Vec Ideal S128x1 .f32) (A : FVec Ideal S96x8192 .bf16) (o : Fin 128) (q : Fin 8192) :
    k0_pay61 w b A (ix2 o q) = clip (∑ c, w (ix2 o c) * A (ix2 c q) + b (ix2 o 0)) := by
  pointwise [k0_pay61]
  rfl

/-- The channel mix from 96 to 64 channels at a pixel. -/
theorem mix64_at (w : Vec Ideal S64x96 .bf16) (b : Vec Ideal S64x1 .f32) (A : FVec Ideal S96x8192 .bf16) (o : Fin 64) (q : Fin 8192) :
    k0_pay65 w b A (ix2 o q) = clip (∑ c, w (ix2 o c) * A (ix2 c q) + b (ix2 o 0)) := by
  pointwise [k0_pay65]
  rfl

/-- The first head's two channel mixes at a pixel. -/
theorem out80_at (w : Vec Ideal S128x128 .bf16) (b : Vec Ideal S128x1 .f32) (hw : Vec Ideal S80x128 .bf16) (hb : Vec Ideal S80x1 .f32)
    (A : FVec Ideal S128x8192 .bf16) (o : Fin 80) (q : Fin 8192) :
    k0_pay63 w b hw hb A (ix3 0 o q) = ∑ d, hw (ix2 o d) * clip (∑ c, w (ix2 d c) * A (ix2 c q) + b (ix2 d 0)) + hb (ix2 o 0) := by
  pointwise [k0_pay63]
  rfl

/-- The second head's two channel mixes, its rectifier and its scale at a pixel. -/
theorem out8_at (w : FVec Ideal S64x64 .bf16) (b : FVec Ideal S64x1 .f32) (hw : FVec Ideal S8x64 .bf16) (hb : Vec Ideal S8x1 .f32)
    (A : FVec Ideal S64x8192 .bf16) (o : Fin 8) (q : Fin 8192) :
    k0_pay1 w b hw hb A (ix3 0 o q)
      = max (∑ d, hw (ix2 o d) * clip (∑ c, w (ix2 d c) * A (ix2 c q) + b (ix2 d 0)) + hb (ix2 o 0)) 0 * Ideal.ofBits .f32 1098907648#32 := by
  pointwise [k0_pay1]
  rfl

/-- The stored image at a pixel. -/
theorem image_at (x : Vec Ideal S1x96x16384 .f32) (c : Fin 96) (j : Fin 16384) : k0_pay59 x (ix2 c j) = x (ix3 0 c j) := by
  pointwise [k0_pay59]

theorem zeros_at (c : Fin 96) (d : Fin 128) (j : Fin 384) :
    k0_pay54 (F := Ideal) (ix2 c j) = 0 ∧ k0_pay55 (F := Ideal) (ix2 c j) = 0 ∧ k0_pay56 (F := Ideal) (ix2 d j) = 0 ∧ k0_pay57 (F := Ideal) (ix2 d j) = 0 := by
  refine ⟨?_, ?_, ?_, ?_⟩ <;> pointwise [k0_pay54, k0_pay55, k0_pay56, k0_pay57]

/-- A cast between equal shapes keeps every element. -/
theorem id96_at (x : Vec Ideal S96x25 .bf16) (c : Fin 96) (t : Fin 25) : k0_pay60 x (ix2 c t) = x (ix2 c t) ∧ k0_pay64 x (ix2 c t) = x (ix2 c t) := by
  constructor <;> pointwise [k0_pay60, k0_pay64]

theorem id128_at (x : Vec Ideal S128x25 .bf16) (c : Fin 128) (t : Fin 25) : k0_pay62 x (ix2 c t) = x (ix2 c t) := by
  pointwise [k0_pay62]

end Cert.KernelIdeal.Chunk
-- ==== Proof.Trips.lean ====
/- What each trip of the four loops stores, written out: one block of 8192 columns, computed from the five rows of taps
   read out of a padded buffer; and the two trips of each loop together. -/
module

public import proofs.«01_k».proof.Proof.Gen.KernelIdeal.Loops
public import proofs.«01_k».proof.Proof.Chunk
public import Idealize.ShloMosaic.Lib.Tactic

@[expose] public section

set_option maxRecDepth 16384

noncomputable section

namespace Cert.KernelIdeal.Trips

open Idealize.ShloMosaic Idealize.ShloMosaic.TcCoe Idealize.ShloMosaic.Tactic Idealize.SL.Sem
open Cert.KernelIdeal Cert.KernelIdeal.Gen Cert.KernelIdeal.Chunk

variable {F : FTy → Type} [FloatOps F]

/-- The five rows of taps loop 1 reads on trip `k`. -/
def rows1 (v : View sig .tc .vmem S96x17152 .bf16) (X : v.ty.Contents (Elt F)) (k : Fin k0_t1_loop.trips) (a : Fin 5) : FVec F S96x8448 .bf16 :=
  v.readAt (Elt F) (Rect.unit (s := S96x17152) (k0_off1 k (k0_off1_at a)) S96x8448.size (k0_off1_inb k a)).toLoadRect X

/-- What loop 1 stores on trip `k`. -/
def piece1 (v26 : Vec F S96x25 .bf16) (v28 : Vec F S128x96 .bf16) (v30 : Vec F S128x1 .f32) (v : View sig .tc .vmem S96x17152 .bf16) (X : v.ty.Contents (Elt F)) (k : Fin k0_t1_loop.trips) :
    View.Piece (Elt F) S128x17152 .bf16 :=
  ⟨Rect.unit (s := S128x17152) (k0_off2 k) S128x8192.size (k0_off2_inb k),
    k0_pay61 v28 v30 (dw96 k0_pay58 (k0_pay60 v26) (rows1 v X k 0) (rows1 v X k 1) (rows1 v X k 2) (rows1 v X k 3) (rows1 v X k 4))⟩

/-- The five rows of taps loop 2 reads on trip `k`. -/
def rows2 (v : View sig .tc .vmem S128x17152 .bf16) (X : v.ty.Contents (Elt F)) (k : Fin k0_t2_loop.trips) (a : Fin 5) : FVec F S128x8448 .bf16 :=
  v.readAt (Elt F) (Rect.unit (s := S128x17152) (k0_off3 k (k0_off3_at a)) S128x8448.size (k0_off3_inb k a)).toLoadRect X

/-- What loop 2 stores on trip `k`. -/
def piece2 (v19 : IVec S1x8192 32) (v33 : Vec F S128x25 .bf16) (v35 : Vec F S128x128 .bf16) (v37 : Vec F S128x1 .f32) (v39 : Vec F S80x128 .bf16) (v41 : Vec F S80x1 .f32) (v : View sig .tc .vmem S128x17152 .bf16) (X : v.ty.Contents (Elt F)) (k : Fin k0_t2_loop.trips) :
    View.Piece (Elt F) S1x80x16384 .f32 :=
  ⟨Rect.unit (s := S1x80x16384) (k0_off4 k) S1x80x8192.size (k0_off4_inb k),
    k0_pay63 v35 v37 v39 v41 (dw128 v19 (k0_pay62 v33) (rows2 v X k 0) (rows2 v X k 1) (rows2 v X k 2) (rows2 v X k 3) (rows2 v X k 4))⟩

/-- The five rows of taps loop 3 reads on trip `k`. -/
def rows3 (v : View sig .tc .vmem S96x17152 .bf16) (X : v.ty.Contents (Elt F)) (k : Fin k0_t3_loop.trips) (a : Fin 5) : FVec F S96x8448 .bf16 :=
  v.readAt (Elt F) (Rect.unit (s := S96x17152) (k0_off5 k (k0_off5_at a)) S96x8448.size (k0_off5_inb k a)).toLoadRect X

/-- What loop 3 stores on trip `k`. -/
def piece3 (v19 : IVec S1x8192 32) (v44 : Vec F S96x25 .bf16) (v46 : Vec F S64x96 .bf16) (v48 : Vec F S64x1 .f32) (v : View sig .tc .vmem S96x17152 .bf16) (X : v.ty.Contents (Elt F)) (k : Fin k0_t3_loop.trips) :
    View.Piece (Elt F) S128x17152 .bf16 :=
  ⟨Rect.unit (s := S128x17152) (k0_off6 k) S64x8192.size (k0_off6_inb k),
    k0_pay65 v46 v48 (dw96b v19 (k0_pay64 v44) (rows3 v X k 0) (rows3 v X k 1) (rows3 v X k 2) (rows3 v X k 3) (rows3 v X k 4))⟩

/-- The five rows of taps loop 4 reads on trip `k`. -/
def rows4 (v : View sig .tc .vmem S128x17152 .bf16) (X : v.ty.Contents (Elt F)) (k : Fin k0_t4_loop.trips) (a : Fin 5) : FVec F S64x8448 .bf16 :=
  v.readAt (Elt F) (Rect.unit (s := S128x17152) (k0_off7 k (k0_off7_at a)) S64x8448.size (k0_off7_inb k a)).toLoadRect X

/-- What loop 4 stores on trip `k`. -/
def piece4 (v19 : IVec S1x8192 32) (v52 : FVec F S64x25 .bf16) (v54 : FVec F S64x64 .bf16) (v56 : FVec F S64x1 .f32) (v58 : FVec F S8x64 .bf16) (v59 : Vec F S8x1 .f32) (v : View sig .tc .vmem S128x17152 .bf16) (X : v.ty.Contents (Elt F)) (k : Fin k0_t4_loop.trips) :
    View.Piece (Elt F) S1x8x16384 .f32 :=
  ⟨Rect.unit (s := S1x8x16384) (k0_off8 k) S1x8x8192.size (k0_off8_inb k),
    k0_pay1 v54 v56 v58 v59 (dw64 v19 v52 (rows4 v X k 0) (rows4 v X k 1) (rows4 v X k 2) (rows4 v X k 3) (rows4 v X k 4))⟩

section

variable (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole)

theorem trip1 (c : Dev nD) (i : grid0.Coords) (v26 : Vec F S96x25 .bf16) (v28 : Vec F S128x96 .bf16) (v30 : Vec F S128x1 .f32) (X_arg20 : BufTy.Contents (Elt F) arg20.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v28 v30 X_arg20 k = [piece1 v26 v28 v30 arg20.view X_arg20 k] := by
  unfold tripL_k0_t1 trip_k0_t1
  rfl

/-- Loop 1's two trips, the later first. -/
theorem loop1 (c : Dev nD) (i : grid0.Coords) (v26 : Vec F S96x25 .bf16) (v28 : Vec F S128x96 .bf16) (v30 : Vec F S128x1 .f32) (X_arg20 : BufTy.Contents (Elt F) arg20.view.ty) :
    pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v28 v30 X_arg20 (Scf.trips (0#32) (Scalar.addi 0#32 2#32) 1#32)
      = [piece1 v26 v28 v30 arg20.view X_arg20 ⟨1, by decide +kernel⟩, piece1 v26 v28 v30 arg20.view X_arg20 ⟨0, by decide +kernel⟩] := by
  have h0 := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v28 v30 X_arg20 ⟨0, by decide +kernel⟩
  have h1 := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v28 v30 X_arg20 ⟨1, by decide +kernel⟩
  rw [trip1] at h0 h1
  rw [show Scf.trips (0#32) (Scalar.addi 0#32 2#32) 1#32 = 2 by decide +kernel]
  refine h1.trans (congrArg (piece1 v26 v28 v30 arg20.view X_arg20 ⟨1, by decide +kernel⟩ :: ·) ?_)
  exact h0.trans rfl

theorem trip2 (c : Dev nD) (i : grid0.Coords) (v19 : IVec S1x8192 32) (v33 : Vec F S128x25 .bf16) (v35 : Vec F S128x128 .bf16) (v37 : Vec F S128x1 .f32) (v39 : Vec F S80x128 .bf16) (v41 : Vec F S80x1 .f32) (X_arg21 : BufTy.Contents (Elt F) arg21.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v33 v35 v37 v39 v41 X_arg21 k = [piece2 v19 v33 v35 v37 v39 v41 arg21.view X_arg21 k] := by
  unfold tripL_k0_t2 trip_k0_t2
  rfl

/-- Loop 2's two trips, the later first. -/
theorem loop2 (c : Dev nD) (i : grid0.Coords) (v19 : IVec S1x8192 32) (v33 : Vec F S128x25 .bf16) (v35 : Vec F S128x128 .bf16) (v37 : Vec F S128x1 .f32) (v39 : Vec F S80x128 .bf16) (v41 : Vec F S80x1 .f32) (X_arg21 : BufTy.Contents (Elt F) arg21.view.ty) :
    pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v33 v35 v37 v39 v41 X_arg21 (Scf.trips (0#32) (Scalar.addi 0#32 2#32) 1#32)
      = [piece2 v19 v33 v35 v37 v39 v41 arg21.view X_arg21 ⟨1, by decide +kernel⟩, piece2 v19 v33 v35 v37 v39 v41 arg21.view X_arg21 ⟨0, by decide +kernel⟩] := by
  have h0 := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v33 v35 v37 v39 v41 X_arg21 ⟨0, by decide +kernel⟩
  have h1 := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v33 v35 v37 v39 v41 X_arg21 ⟨1, by decide +kernel⟩
  rw [trip2] at h0 h1
  rw [show Scf.trips (0#32) (Scalar.addi 0#32 2#32) 1#32 = 2 by decide +kernel]
  refine h1.trans (congrArg (piece2 v19 v33 v35 v37 v39 v41 arg21.view X_arg21 ⟨1, by decide +kernel⟩ :: ·) ?_)
  exact h0.trans rfl

theorem trip3 (c : Dev nD) (i : grid0.Coords) (v19 : IVec S1x8192 32) (v44 : Vec F S96x25 .bf16) (v46 : Vec F S64x96 .bf16) (v48 : Vec F S64x1 .f32) (X_arg20 : BufTy.Contents (Elt F) arg20.view.ty) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v44 v46 v48 X_arg20 k = [piece3 v19 v44 v46 v48 arg20.view X_arg20 k] := by
  unfold tripL_k0_t3 trip_k0_t3
  rfl

/-- Loop 3's two trips, the later first. -/
theorem loop3 (c : Dev nD) (i : grid0.Coords) (v19 : IVec S1x8192 32) (v44 : Vec F S96x25 .bf16) (v46 : Vec F S64x96 .bf16) (v48 : Vec F S64x1 .f32) (X_arg20 : BufTy.Contents (Elt F) arg20.view.ty) :
    pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v44 v46 v48 X_arg20 (Scf.trips (0#32) (Scalar.addi 0#32 2#32) 1#32)
      = [piece3 v19 v44 v46 v48 arg20.view X_arg20 ⟨1, by decide +kernel⟩, piece3 v19 v44 v46 v48 arg20.view X_arg20 ⟨0, by decide +kernel⟩] := by
  have h0 := pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v44 v46 v48 X_arg20 ⟨0, by decide +kernel⟩
  have h1 := pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v44 v46 v48 X_arg20 ⟨1, by decide +kernel⟩
  rw [trip3] at h0 h1
  rw [show Scf.trips (0#32) (Scalar.addi 0#32 2#32) 1#32 = 2 by decide +kernel]
  refine h1.trans (congrArg (piece3 v19 v44 v46 v48 arg20.view X_arg20 ⟨1, by decide +kernel⟩ :: ·) ?_)
  exact h0.trans rfl

theorem trip4 (c : Dev nD) (i : grid0.Coords) (v19 : IVec S1x8192 32) (v52 : FVec F S64x25 .bf16) (v54 : FVec F S64x64 .bf16) (v56 : FVec F S64x1 .f32) (v58 : FVec F S8x64 .bf16) (v59 : Vec F S8x1 .f32) (X_arg21 : BufTy.Contents (Elt F) arg21.view.ty) (k : Fin k0_t4_loop.trips) :
    tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v52 v54 v56 v58 v59 X_arg21 k = [piece4 v19 v52 v54 v56 v58 v59 arg21.view X_arg21 k] := by
  unfold tripL_k0_t4 trip_k0_t4
  rfl

/-- Loop 4's two trips, the later first. -/
theorem loop4 (c : Dev nD) (i : grid0.Coords) (v19 : IVec S1x8192 32) (v52 : FVec F S64x25 .bf16) (v54 : FVec F S64x64 .bf16) (v56 : FVec F S64x1 .f32) (v58 : FVec F S8x64 .bf16) (v59 : Vec F S8x1 .f32) (X_arg21 : BufTy.Contents (Elt F) arg21.view.ty) :
    pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v52 v54 v56 v58 v59 X_arg21 (Scf.trips (0#32) (Scalar.addi 0#32 2#32) 1#32)
      = [piece4 v19 v52 v54 v56 v58 v59 arg21.view X_arg21 ⟨1, by decide +kernel⟩, piece4 v19 v52 v54 v56 v58 v59 arg21.view X_arg21 ⟨0, by decide +kernel⟩] := by
  have h0 := pb_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v52 v54 v56 v58 v59 X_arg21 ⟨0, by decide +kernel⟩
  have h1 := pb_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v19 v52 v54 v56 v58 v59 X_arg21 ⟨1, by decide +kernel⟩
  rw [trip4] at h0 h1
  rw [show Scf.trips (0#32) (Scalar.addi 0#32 2#32) 1#32 = 2 by decide +kernel]
  refine h1.trans (congrArg (piece4 v19 v52 v54 v56 v58 v59 arg21.view X_arg21 ⟨1, by decide +kernel⟩ :: ·) ?_)
  exact h0.trans rfl

end

end Cert.KernelIdeal.Trips
-- ==== Proof.Stages.lean ====
/- What a loop leaves behind, read at an index: given the padded buffer a loop reads as a function of channel and column,
   the loop's two stores are the convolution stages of the plain description. -/
module

public import proofs.«01_k».proof.Proof.Trips
public import Idealize.ShloMosaic.Lib.VecWindow
public import Idealize.ShloMosaic.Lib.WritesUnit

@[expose] public section

set_option maxRecDepth 16384

noncomputable section

namespace Cert.KernelIdeal.Stages

open Idealize.ShloMosaic Idealize.ShloMosaic.TcCoe Idealize.ShloMosaic.Tactic
open Cert.KernelIdeal Cert.KernelIdeal.Gen Cert.KernelIdeal.Chunk Cert.KernelIdeal.Trips Cert.Conv

/-- A clipped depthwise window and a channel mix, as a function of arrays. -/
abbrev liteOf {C O : ℕ} (k : (⟨2, ![C, 25]⟩ : Shape).Idx → EReal) (w : (⟨2, ![O, C]⟩ : Shape).Idx → EReal) (b : (⟨2, ![O, 1]⟩ : Shape).Idx → EReal)
    (X : Fin C → ℕ → EReal) : Fin O → ℕ → EReal :=
  lite (fun c t => k (ix2 c t)) (fun o c => w (ix2 o c)) (fun o => b (ix2 o 0)) X

/-- The last channel mix, as a function of arrays. -/
abbrev headOf {C O : ℕ} (w : (⟨2, ![O, C]⟩ : Shape).Idx → EReal) (b : (⟨2, ![O, 1]⟩ : Shape).Idx → EReal) (h : Fin C → ℕ → EReal) : Fin O → ℕ → EReal :=
  head (fun o c => w (ix2 o c)) (fun o => b (ix2 o 0)) h

/-- Rows `0` to `r - 1` of a padded buffer, read from column `base` on. -/
theorem row_at {R r : ℕ} (hr : r ≤ R) (v : View sig .tc .vmem (⟨2, ![R, 17152]⟩ : Shape) .bf16) (f : v.ty.Contents (Elt Ideal)) (X : Fin r → ℕ → EReal)
    (hX : ∀ (c : Fin r) (j : Fin 17152), v.read (Elt Ideal) f (ix2 (c.castLE hr) j) = X c j.val)
    {off : Fin 2 → ℕ} (inb : ∀ a, off a + (![r, 8448] : Fin 2 → ℕ) a ≤ (![R, 17152] : Fin 2 → ℕ) a) (base : ℕ) (h : off = ![0, base]) (c : Fin r) (y : Fin 8448) :
    v.readAt (Elt Ideal) (Rect.unit (s := (⟨2, ![R, 17152]⟩ : Shape)) off ![r, 8448] inb).toLoadRect f (ix2 c y) = X c (base + y.val) := by
  subst h
  have hb : base + 8448 ≤ 17152 := by simpa using inb 1
  refine (congrArg (v.read (Elt Ideal) f) ?_).trans (hX c ⟨base + y.val, by have := y.isLt; omega⟩)
  refine funext fun i => Fin.ext ?_
  fin_cases i <;> simp [ix2, LoadRect.idx, Rect.unit]

/-- Two neighbouring stores of 8192 columns each, read at an index of the stored rows: the two blocks side by side over the
image's columns, and what was there before over the padding. -/
theorem two_stores {R r : ℕ} (hr : r ≤ R) (v : View sig .tc .vmem (⟨2, ![R, 17152]⟩ : Shape) .bf16) (g : v.ty.Contents (Elt Ideal))
    (L : List (View.Piece (Elt Ideal) (⟨2, ![R, 17152]⟩ : Shape) .bf16)) {off off' : Fin 2 → ℕ}
    (inb : ∀ a, off a + (![r, 8192] : Fin 2 → ℕ) a ≤ (![R, 17152] : Fin 2 → ℕ) a) (inb' : ∀ a, off' a + (![r, 8192] : Fin 2 → ℕ) a ≤ (![R, 17152] : Fin 2 → ℕ) a)
    (h : off = ![0, 8576]) (h' : off' = ![0, 384]) (w w' : (⟨2, ![r, 8192]⟩ : Shape).Idx → EReal) (Y : Fin r → ℕ → EReal)
    (hw : ∀ (o : Fin r) (q : Fin 8192), w (ix2 o q) = Y o (8192 + q.val)) (hw' : ∀ (o : Fin r) (q : Fin 8192), w' (ix2 o q) = Y o q.val)
    (o : Fin r) (j : Fin 17152) :
    v.read (Elt Ideal) (v.writes (Elt Ideal) g ((⟨Rect.unit (s := (⟨2, ![R, 17152]⟩ : Shape)) off ![r, 8192] inb, w⟩ : View.Piece (Elt Ideal) (⟨2, ![R, 17152]⟩ : Shape) .bf16)
        :: (⟨Rect.unit (s := (⟨2, ![R, 17152]⟩ : Shape)) off' ![r, 8192] inb', w'⟩ : View.Piece (Elt Ideal) (⟨2, ![R, 17152]⟩ : Shape) .bf16) :: L)) (ix2 (o.castLE hr) j)
      = if 384 ≤ j.val ∧ j.val < 16768 then Y o (j.val - 384) else v.read (Elt Ideal) (v.writes (Elt Ideal) g L) (ix2 (o.castLE hr) j) := by
  have := o.isLt
  by_cases hj : 384 ≤ j.val ∧ j.val < 16768
  · rw [if_pos hj]
    by_cases h1 : 8576 ≤ j.val
    · refine (View.read_writes_cons_unit_of_mem v g _ _ _ _ (ix2 o (⟨j.val - 8576, by omega⟩ : Fin 8192)) h ?_).trans ((hw _ _).trans ?_)
      · intro a; fin_cases a <;> simp [ix2]; omega
      · exact congrArg _ (by simp; omega)
    · refine (View.read_writes_cons_unit_of_not_mem v g _ _ _ _ h 1 (by show j.val < 8576 ∨ 8576 + 8192 ≤ j.val; omega)).trans ?_
      refine (View.read_writes_cons_unit_of_mem v g _ _ _ _ (ix2 o (⟨j.val - 384, by omega⟩ : Fin 8192)) h' ?_).trans (hw' _ _)
      intro a; fin_cases a <;> simp [ix2]; omega
  · rw [if_neg hj]
    refine (View.read_writes_cons_unit_of_not_mem v g _ _ _ _ h 1 (by show j.val < 8576 ∨ 8576 + 8192 ≤ j.val; omega)).trans ?_
    exact View.read_writes_cons_unit_of_not_mem v g _ _ _ _ h' 1 (by show j.val < 384 ∨ 384 + 8192 ≤ j.val; omega)

/-- A store over image columns leaves the padding alone, in every row. -/
theorem store_pad {R r n : ℕ} (v : View sig .tc .vmem (⟨2, ![R, 17152]⟩ : Shape) .bf16) (g : v.ty.Contents (Elt Ideal))
    (L : List (View.Piece (Elt Ideal) (⟨2, ![R, 17152]⟩ : Shape) .bf16)) {off : Fin 2 → ℕ}
    (inb : ∀ a, off a + (![r, n] : Fin 2 → ℕ) a ≤ (![R, 17152] : Fin 2 → ℕ) a) (base : ℕ)
    (h : off = ![0, base]) (hb : 384 ≤ base) (hn : base + n ≤ 16768) (w : (⟨2, ![r, n]⟩ : Shape).Idx → EReal)
    (o : Fin R) (j : Fin 17152) (hj : ¬(384 ≤ j.val ∧ j.val < 16768)) :
    v.read (Elt Ideal) (v.writes (Elt Ideal) g ((⟨Rect.unit (s := (⟨2, ![R, 17152]⟩ : Shape)) off ![r, n] inb, w⟩ : View.Piece (Elt Ideal) (⟨2, ![R, 17152]⟩ : Shape) .bf16) :: L)) (ix2 o j)
      = v.read (Elt Ideal) (v.writes (Elt Ideal) g L) (ix2 o j) :=
  View.read_writes_cons_unit_of_not_mem v g _ _ _ _ h 1 (by show j.val < base ∨ base + n ≤ j.val; omega)

/-- Two neighbouring stores that fill a whole result block, read at an index. -/
theorem two_stores_out {R : ℕ} (v : View sig .tc .vmem (⟨3, ![1, R, 16384]⟩ : Shape) .f32) (g : v.ty.Contents (Elt Ideal)) {off off' : Fin 3 → ℕ}
    (inb : ∀ a, off a + (![1, R, 8192] : Fin 3 → ℕ) a ≤ (![1, R, 16384] : Fin 3 → ℕ) a) (inb' : ∀ a, off' a + (![1, R, 8192] : Fin 3 → ℕ) a ≤ (![1, R, 16384] : Fin 3 → ℕ) a)
    (h : off = ![0, 0, 8192]) (h' : off' = ![0, 0, 0]) (w w' : (⟨3, ![1, R, 8192]⟩ : Shape).Idx → EReal) (Y : Fin R → ℕ → EReal)
    (hw : ∀ (o : Fin R) (q : Fin 8192), w (ix3 0 o q) = Y o (8192 + q.val)) (hw' : ∀ (o : Fin R) (q : Fin 8192), w' (ix3 0 o q) = Y o q.val)
    (o : Fin R) (j : Fin 16384) :
    v.read (Elt Ideal) (v.writes (Elt Ideal) g [(⟨Rect.unit (s := (⟨3, ![1, R, 16384]⟩ : Shape)) off ![1, R, 8192] inb, w⟩ : View.Piece (Elt Ideal) (⟨3, ![1, R, 16384]⟩ : Shape) .f32),
        (⟨Rect.unit (s := (⟨3, ![1, R, 16384]⟩ : Shape)) off' ![1, R, 8192] inb', w'⟩ : View.Piece (Elt Ideal) (⟨3, ![1, R, 16384]⟩ : Shape) .f32)]) (ix3 0 o j)
      = Y o j.val := by
  by_cases h1 : 8192 ≤ j.val
  · refine (View.read_writes_cons_unit_of_mem v g _ _ _ _ (ix3 0 o (⟨j.val - 8192, by omega⟩ : Fin 8192)) h ?_).trans ((hw _ _).trans ?_)
    · intro a; fin_cases a <;> simp [ix3]; omega
    · exact congrArg _ (by simp; omega)
  · refine (View.read_writes_cons_unit_of_not_mem v g _ _ _ _ h 2 (by show j.val < 8192 ∨ 8192 + 8192 ≤ j.val; omega)).trans ?_
    refine (View.read_writes_cons_unit_of_mem v g _ _ _ _ (ix3 0 o (⟨j.val, by omega⟩ : Fin 8192)) h' ?_).trans (hw' _ _)
    intro a; fin_cases a <;> simp [ix3]

theorem off1 : ∀ (k : Fin k0_t1_loop.trips) (a : Fin 5), k0_off1 k (k0_off1_at a) = ![0, 8192 * k.val + 128 * a.val] := by decide +kernel
theorem off3 : ∀ (k : Fin k0_t2_loop.trips) (a : Fin 5), k0_off3 k (k0_off3_at a) = ![0, 8192 * k.val + 128 * a.val] := by decide +kernel
theorem off5 : ∀ (k : Fin k0_t3_loop.trips) (a : Fin 5), k0_off5 k (k0_off5_at a) = ![0, 8192 * k.val + 128 * a.val] := by decide +kernel
theorem off7 : ∀ (k : Fin k0_t4_loop.trips) (a : Fin 5), k0_off7 k (k0_off7_at a) = ![0, 8192 * k.val + 128 * a.val] := by decide +kernel

section

variable (v20 : View sig .tc .vmem S96x17152 .bf16) (v21 : View sig .tc .vmem S128x17152 .bf16)

/-- Loop 1 writes the first stage over the image's columns and leaves the rest. -/
theorem stage1 (kk : Vec Ideal S96x25 .bf16) (w : Vec Ideal S128x96 .bf16) (b : Vec Ideal S128x1 .f32) (f : v20.ty.Contents (Elt Ideal)) (X : Fin 96 → ℕ → EReal)
    (hX : ∀ (c : Fin 96) (j : Fin 17152), v20.read (Elt Ideal) f (ix2 c j) = X c j.val)
    (g : v21.ty.Contents (Elt Ideal)) (L : List (View.Piece (Elt Ideal) S128x17152 .bf16)) (o : Fin 128) (j : Fin 17152) :
    v21.read (Elt Ideal) (v21.writes (Elt Ideal) g (piece1 kk w b v20 f ⟨1, by decide +kernel⟩ :: piece1 kk w b v20 f ⟨0, by decide +kernel⟩ :: L)) (ix2 o j)
      = if 384 ≤ j.val ∧ j.val < 16768 then liteOf kk w b X o (j.val - 384) else v21.read (Elt Ideal) (v21.writes (Elt Ideal) g L) (ix2 o j) := by
  have row (k : Fin k0_t1_loop.trips) (a : Fin 5) (c : Fin 96) (y : Fin 8448) : rows1 v20 f k a (ix2 c y) = X c (8192 * k.val + 128 * a.val + y.val) :=
    row_at (Nat.le_refl _) v20 f X hX (k0_off1_inb k a) _ (off1 k a) c y
  have val (k : Fin k0_t1_loop.trips) (o : Fin 128) (q : Fin 8192) : (piece1 kk w b v20 f k).2 (ix2 o q) = liteOf kk w b X o (8192 * k.val + q.val) := by
    refine (mix128_at w b _ o q).trans ?_
    refine congrArg (fun z => clip (z + _)) (Finset.sum_congr rfl fun c _ => congrArg _ ?_)
    exact (dw96_at _ (fun a => rows1 v20 f k a) X (8192 * k.val) (by omega) (row k) c q).trans
      (congrArg (fun z => dw (X c) z _) (funext fun t => (id96_at kk c t).1))
  exact two_stores (Nat.le_refl _) v21 g L _ _ (k0_off2_eq ⟨1, by decide +kernel⟩) (k0_off2_eq ⟨0, by decide +kernel⟩) (piece1 kk w b v20 f ⟨1, by decide +kernel⟩).2 (piece1 kk w b v20 f ⟨0, by decide +kernel⟩).2 (liteOf kk w b X) (val ⟨1, by decide +kernel⟩)
    (fun o q => (val ⟨0, by decide +kernel⟩ o q).trans (by simp only [Nat.mul_zero, Nat.zero_add])) o j

/-- Loop 3 writes its stage over the image's columns of the first 64 rows and leaves the rest. -/
theorem stage3 (kk : Vec Ideal S96x25 .bf16) (w : Vec Ideal S64x96 .bf16) (b : Vec Ideal S64x1 .f32) (f : v20.ty.Contents (Elt Ideal)) (X : Fin 96 → ℕ → EReal)
    (hX : ∀ (c : Fin 96) (j : Fin 17152), v20.read (Elt Ideal) f (ix2 c j) = X c j.val)
    (g : v21.ty.Contents (Elt Ideal)) (L : List (View.Piece (Elt Ideal) S128x17152 .bf16)) (o : Fin 64) (j : Fin 17152) :
    v21.read (Elt Ideal) (v21.writes (Elt Ideal) g (piece3 k0_pay58 kk w b v20 f ⟨1, by decide +kernel⟩ :: piece3 k0_pay58 kk w b v20 f ⟨0, by decide +kernel⟩ :: L))
        (ix2 (o.castLE (by decide) : Fin 128) j)
      = if 384 ≤ j.val ∧ j.val < 16768 then liteOf kk w b X o (j.val - 384)
        else v21.read (Elt Ideal) (v21.writes (Elt Ideal) g L) (ix2 (o.castLE (by decide) : Fin 128) j) := by
  have row (k : Fin k0_t3_loop.trips) (a : Fin 5) (c : Fin 96) (y : Fin 8448) : rows3 v20 f k a (ix2 c y) = X c (8192 * k.val + 128 * a.val + y.val) :=
    row_at (Nat.le_refl _) v20 f X hX (k0_off5_inb k a) _ (off5 k a) c y
  have val (k : Fin k0_t3_loop.trips) (o : Fin 64) (q : Fin 8192) : (piece3 k0_pay58 kk w b v20 f k).2 (ix2 o q) = liteOf kk w b X o (8192 * k.val + q.val) := by
    refine (mix64_at w b _ o q).trans ?_
    refine congrArg (fun z => clip (z + _)) (Finset.sum_congr rfl fun c _ => congrArg _ ?_)
    exact (dw96_at _ (fun a => rows3 v20 f k a) X (8192 * k.val) (by omega) (row k) c q).trans
      (congrArg (fun z => dw (X c) z _) (funext fun t => (id96_at kk c t).2))
  exact two_stores (by decide) v21 g L _ _ (k0_off6_eq ⟨1, by decide +kernel⟩) (k0_off6_eq ⟨0, by decide +kernel⟩) (piece3 k0_pay58 kk w b v20 f ⟨1, by decide +kernel⟩).2 (piece3 k0_pay58 kk w b v20 f ⟨0, by decide +kernel⟩).2 (liteOf kk w b X) (val ⟨1, by decide +kernel⟩)
    (fun o q => (val ⟨0, by decide +kernel⟩ o q).trans (by simp only [Nat.mul_zero, Nat.zero_add])) o j

/-- Loop 2 fills the first result block. -/
theorem stage2 (kk : Vec Ideal S128x25 .bf16) (w : Vec Ideal S128x128 .bf16) (b : Vec Ideal S128x1 .f32) (hw : Vec Ideal S80x128 .bf16) (hb : Vec Ideal S80x1 .f32)
    (f : v21.ty.Contents (Elt Ideal)) (X : Fin 128 → ℕ → EReal)
    (hX : ∀ (c : Fin 128) (j : Fin 17152), v21.read (Elt Ideal) f (ix2 c j) = X c j.val)
    (v : View sig .tc .vmem S1x80x16384 .f32) (g : v.ty.Contents (Elt Ideal)) (o : Fin 80) (p : Fin 16384) :
    v.read (Elt Ideal) (v.writes (Elt Ideal) g [piece2 k0_pay58 kk w b hw hb v21 f ⟨1, by decide +kernel⟩, piece2 k0_pay58 kk w b hw hb v21 f ⟨0, by decide +kernel⟩]) (ix3 0 o p)
      = headOf hw hb (liteOf kk w b X) o p.val := by
  have row (k : Fin k0_t2_loop.trips) (a : Fin 5) (c : Fin 128) (y : Fin 8448) : rows2 v21 f k a (ix2 c y) = X c (8192 * k.val + 128 * a.val + y.val) :=
    row_at (Nat.le_refl _) v21 f X hX (k0_off3_inb k a) _ (off3 k a) c y
  have val (k : Fin k0_t2_loop.trips) (o : Fin 80) (q : Fin 8192) :
      (piece2 k0_pay58 kk w b hw hb v21 f k).2 (ix3 0 o q) = headOf hw hb (liteOf kk w b X) o (8192 * k.val + q.val) := by
    refine (out80_at w b hw hb _ o q).trans ?_
    refine congrArg (· + _) (Finset.sum_congr rfl fun d _ => congrArg _ ?_)
    refine congrArg (fun z => clip (z + _)) (Finset.sum_congr rfl fun c _ => congrArg _ ?_)
    exact (dw128_at _ (fun a => rows2 v21 f k a) X (8192 * k.val) (by omega) (row k) c q).trans
      (congrArg (fun z => dw (X c) z _) (funext fun t => id128_at kk c t))
  exact two_stores_out v g _ _ (k0_off4_eq ⟨1, by decide +kernel⟩) (k0_off4_eq ⟨0, by decide +kernel⟩) (piece2 k0_pay58 kk w b hw hb v21 f ⟨1, by decide +kernel⟩).2 (piece2 k0_pay58 kk w b hw hb v21 f ⟨0, by decide +kernel⟩).2 (headOf hw hb (liteOf kk w b X)) (val ⟨1, by decide +kernel⟩)
    (fun o q => (val ⟨0, by decide +kernel⟩ o q).trans (by simp only [Nat.mul_zero, Nat.zero_add])) o p

/-- Loop 4 fills the second result block. -/
theorem stage4 (kk : FVec Ideal S64x25 .bf16) (w : FVec Ideal S64x64 .bf16) (b : FVec Ideal S64x1 .f32) (hw : FVec Ideal S8x64 .bf16) (hb : Vec Ideal S8x1 .f32)
    (f : v21.ty.Contents (Elt Ideal)) (X : Fin 64 → ℕ → EReal)
    (hX : ∀ (c : Fin 64) (j : Fin 17152), v21.read (Elt Ideal) f (ix2 (c.castLE (by decide) : Fin 128) j) = X c j.val)
    (v : View sig .tc .vmem S1x8x16384 .f32) (g : v.ty.Contents (Elt Ideal)) (o : Fin 8) (p : Fin 16384) :
    v.read (Elt Ideal) (v.writes (Elt Ideal) g [piece4 k0_pay58 kk w b hw hb v21 f ⟨1, by decide +kernel⟩, piece4 k0_pay58 kk w b hw hb v21 f ⟨0, by decide +kernel⟩]) (ix3 0 o p)
      = max (headOf hw hb (liteOf kk w b X) o p.val) 0 * Ideal.ofBits .f32 1098907648#32 := by
  have row (k : Fin k0_t4_loop.trips) (a : Fin 5) (c : Fin 64) (y : Fin 8448) : rows4 v21 f k a (ix2 c y) = X c (8192 * k.val + 128 * a.val + y.val) :=
    row_at (by decide) v21 f X hX (k0_off7_inb k a) _ (off7 k a) c y
  have val (k : Fin k0_t4_loop.trips) (o : Fin 8) (q : Fin 8192) :
      (piece4 k0_pay58 kk w b hw hb v21 f k).2 (ix3 0 o q) = max (headOf hw hb (liteOf kk w b X) o (8192 * k.val + q.val)) 0 * Ideal.ofBits .f32 1098907648#32 := by
    refine (out8_at w b hw hb _ o q).trans ?_
    refine congrArg (fun z => max (z + _) 0 * _) (Finset.sum_congr rfl fun d _ => congrArg _ ?_)
    refine congrArg (fun z => clip (z + _)) (Finset.sum_congr rfl fun c _ => congrArg _ ?_)
    exact dw64_at _ (fun a => rows4 v21 f k a) X (8192 * k.val) (by omega) (row k) c q
  exact two_stores_out v g _ _ (k0_off8_eq ⟨1, by decide +kernel⟩) (k0_off8_eq ⟨0, by decide +kernel⟩) (piece4 k0_pay58 kk w b hw hb v21 f ⟨1, by decide +kernel⟩).2 (piece4 k0_pay58 kk w b hw hb v21 f ⟨0, by decide +kernel⟩).2 (fun o p => max (headOf hw hb (liteOf kk w b X) o p) 0 * Ideal.ofBits .f32 1098907648#32) (val ⟨1, by decide +kernel⟩)
    (fun o q => (val ⟨0, by decide +kernel⟩ o q).trans (by simp only [Nat.mul_zero, Nat.zero_add])) o p

end

end Cert.KernelIdeal.Stages
-- ==== Proof.Value.lean ====
/- What one trip of the grid leaves behind: the two result blocks as plain functions of the input blocks, and the fact that
   the padding of the two scratch buffers stays zero. -/
module

public import proofs.«01_k».proof.Proof.Stages

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Chunk Cert.KernelIdeal.Trips Cert.KernelIdeal.Stages Cert.Conv

/-- An image block with zero padding around it. -/
def img (x : Vec Ideal S1x96x16384 .f32) (c : Fin 96) : ℕ → EReal :=
  padded fun p => if h : p < 16384 then x (ix3 0 c ⟨p, h⟩) else 0

/-- The first result block. -/
def out17 (x0 : Vec Ideal S1x96x16384 .f32) (x1 : Vec Ideal S96x25 .bf16) (x2 : Vec Ideal S128x96 .bf16) (x3 : Vec Ideal S128x1 .f32)
    (x4 : Vec Ideal S128x25 .bf16) (x5 : Vec Ideal S128x128 .bf16) (x6 : Vec Ideal S128x1 .f32) (x7 : Vec Ideal S80x128 .bf16) (x8 : Vec Ideal S80x1 .f32) :
    Vec Ideal S1x80x16384 .f32 :=
  fun y => headOf x7 x8 (liteOf x4 x5 x6 fun c => padded (liteOf x1 x2 x3 (img x0) c)) (y 1) (y 2).val

/-- The second result block. -/
def out18 (x0 : Vec Ideal S1x96x16384 .f32) (x9 : Vec Ideal S96x25 .bf16) (x10 : Vec Ideal S64x96 .bf16) (x11 : Vec Ideal S64x1 .f32)
    (x12 : Vec Ideal S64x25 .bf16) (x13 : Vec Ideal S64x64 .bf16) (x14 : Vec Ideal S64x1 .f32) (x15 : Vec Ideal S8x64 .bf16) (x16 : Vec Ideal S8x1 .f32) :
    Vec Ideal S1x8x16384 .f32 :=
  fun y => max (headOf x15 x16 (liteOf x12 x13 x14 fun c => padded (liteOf x9 x10 x11 (img x0) c)) (y 1) (y 2).val) 0 * Ideal.ofBits .f32 1098907648#32

/-- A scratch buffer's padding columns hold zero. -/
def Pad {R : ℕ} (s : (⟨2, ![R, 17152]⟩ : Shape).Idx → EReal) : Prop :=
  ∀ (c : Fin R) (j : Fin 17152), ¬(384 ≤ j.val ∧ j.val < 16768) → s (ix2 c j) = 0

/-- The two stores of zeros into the padding. -/
theorem pad_of_zeros {R : ℕ} (v : View sig .tc .vmem (⟨2, ![R, 17152]⟩ : Shape) .bf16) (g : v.ty.Contents (Elt Ideal))
    (inb : ∀ a, (![0, 16768] : Fin 2 → ℕ) a + (![R, 384] : Fin 2 → ℕ) a ≤ (![R, 17152] : Fin 2 → ℕ) a)
    (inb' : ∀ a, (![0, 0] : Fin 2 → ℕ) a + (![R, 384] : Fin 2 → ℕ) a ≤ (![R, 17152] : Fin 2 → ℕ) a)
    (w w' : (⟨2, ![R, 384]⟩ : Shape).Idx → EReal) (hw : ∀ (c : Fin R) (q : Fin 384), w (ix2 c q) = 0) (hw' : ∀ (c : Fin R) (q : Fin 384), w' (ix2 c q) = 0) :
    Pad (v.read (Elt Ideal) (v.writes (Elt Ideal) g [(⟨Rect.unit (s := (⟨2, ![R, 17152]⟩ : Shape)) ![0, 16768] ![R, 384] inb, w⟩ : View.Piece (Elt Ideal) (⟨2, ![R, 17152]⟩ : Shape) .bf16),
      (⟨Rect.unit (s := (⟨2, ![R, 17152]⟩ : Shape)) ![0, 0] ![R, 384] inb', w'⟩ : View.Piece (Elt Ideal) (⟨2, ![R, 17152]⟩ : Shape) .bf16)])) := by
  intro c j hj
  by_cases h1 : 16768 ≤ j.val
  · refine (View.read_writes_cons_unit_of_mem v g _ _ _ _ (ix2 c (⟨j.val - 16768, by omega⟩ : Fin 384)) rfl ?_).trans (hw _ _)
    intro a; fin_cases a <;> simp [ix2]; omega
  · refine (View.read_writes_cons_unit_of_not_mem v g _ _ _ _ rfl 1 (by show j.val < 16768 ∨ 16768 + 384 ≤ j.val; omega)).trans ?_
    refine (View.read_writes_cons_unit_of_mem v g _ _ _ _ (ix2 c (⟨j.val, by omega⟩ : Fin 384)) rfl ?_).trans (hw' _ _)
    intro a; fin_cases a <;> simp [ix2]

/-- The first scratch buffer's two stores of zeros, the later first. -/
def zeros20 : List (View.Piece (Elt Ideal) S96x17152 .bf16) :=
  [(⟨Rect.unit (s := S96x17152) ![0, 16768] ![96, 384] inb_S96x17152_S96x384_0_16768, k0_pay55 (F := Ideal)⟩ : View.Piece (Elt Ideal) S96x17152 .bf16),
    (⟨Rect.unit (s := S96x17152) ![0, 0] ![96, 384] inb_S96x17152_S96x384_0_0, k0_pay54 (F := Ideal)⟩ : View.Piece (Elt Ideal) S96x17152 .bf16)]

/-- The second scratch buffer's two stores of zeros, the later first. -/
def zeros21 : List (View.Piece (Elt Ideal) S128x17152 .bf16) :=
  [(⟨Rect.unit (s := S128x17152) ![0, 16768] ![128, 384] inb_S128x17152_S128x384_0_16768, k0_pay57 (F := Ideal)⟩ : View.Piece (Elt Ideal) S128x17152 .bf16),
    (⟨Rect.unit (s := S128x17152) ![0, 0] ![128, 384] inb_S128x17152_S128x384_0_0, k0_pay56 (F := Ideal)⟩ : View.Piece (Elt Ideal) S128x17152 .bf16)]

theorem pad20 (v : View sig .tc .vmem S96x17152 .bf16) (g : v.ty.Contents (Elt Ideal)) : Pad (v.read (Elt Ideal) (v.writes (Elt Ideal) g zeros20)) :=
  pad_of_zeros (R := 96) v g inb_S96x17152_S96x384_0_16768 inb_S96x17152_S96x384_0_0 (k0_pay55 (F := Ideal)) (k0_pay54 (F := Ideal))
    (fun c q => (Chunk.zeros_at c 0 q).2.1) (fun c q => (Chunk.zeros_at c 0 q).1)

theorem pad21 (v : View sig .tc .vmem S128x17152 .bf16) (g : v.ty.Contents (Elt Ideal)) : Pad (v.read (Elt Ideal) (v.writes (Elt Ideal) g zeros21)) :=
  pad_of_zeros (R := 128) v g inb_S128x17152_S128x384_0_16768 inb_S128x17152_S128x384_0_0 (k0_pay57 (F := Ideal)) (k0_pay56 (F := Ideal))
    (fun c q => (Chunk.zeros_at 0 c q).2.2.2) (fun c q => (Chunk.zeros_at 0 c q).2.2.1)

section

variable (v20 : View sig .tc .vmem S96x17152 .bf16) (g0 : v20.ty.Contents (Elt Ideal)) (L0 : List (View.Piece (Elt Ideal) S96x17152 .bf16))
  (h0 : Pad (v20.read (Elt Ideal) (v20.writes (Elt Ideal) g0 L0)))
  (v21 : View sig .tc .vmem S128x17152 .bf16) (g1 : v21.ty.Contents (Elt Ideal)) (L1 : List (View.Piece (Elt Ideal) S128x17152 .bf16))
  (h1 : Pad (v21.read (Elt Ideal) (v21.writes (Elt Ideal) g1 L1)))
  (x0 : Vec Ideal S1x96x16384 .f32)

/-- The store of the image block into the first scratch buffer. -/
def imageStore : View.Piece (Elt Ideal) S96x17152 .bf16 :=
  ⟨Rect.unit (s := S96x17152) ![0, 384] ![96, 16384] inb_S96x17152_S96x16384_0_384, k0_pay59 x0⟩

/-- The first scratch buffer's contents after that store. -/
abbrev filled : v20.ty.Contents (Elt Ideal) := v20.writes (Elt Ideal) g0 (imageStore x0 :: L0)

include h0 in
/-- The first scratch buffer holds the padded image. -/
theorem filled_at (c : Fin 96) (j : Fin 17152) : v20.read (Elt Ideal) (filled v20 g0 L0 x0) (ix2 c j) = img x0 c j.val := by
  unfold img padded
  by_cases h : 384 ≤ j.val ∧ j.val < 16768
  · rw [if_pos h]
    beta_reduce
    rw [dif_pos (by omega)]
    refine (View.read_writes_cons_unit_of_mem v20 g0 _ _ _ _ (ix2 c (⟨j.val - 384, by omega⟩ : Fin 16384)) rfl ?_).trans (image_at x0 c _)
    intro a; fin_cases a <;> simp [ix2]; omega
  · rw [if_neg h]
    exact (store_pad v20 g0 L0 _ 384 rfl (by omega) (by omega) _ c j h).trans (h0 c j h)

include h0 in
/-- The first scratch buffer's padding stays zero. -/
theorem filled_pad : Pad (v20.read (Elt Ideal) (filled v20 g0 L0 x0)) := fun c j h => by
  rw [filled_at v20 g0 L0 h0 x0, img, padded, if_neg h]

include h0 h1 in
/-- The first result block, as the loops write it. -/
theorem out17_eq (x1 : Vec Ideal S96x25 .bf16) (x2 : Vec Ideal S128x96 .bf16) (x3 : Vec Ideal S128x1 .f32)
    (x4 : Vec Ideal S128x25 .bf16) (x5 : Vec Ideal S128x128 .bf16) (x6 : Vec Ideal S128x1 .f32) (x7 : Vec Ideal S80x128 .bf16) (x8 : Vec Ideal S80x1 .f32)
    (v : View sig .tc .vmem S1x80x16384 .f32) (f : v.ty.Contents (Elt Ideal)) (A : v20.ty.Contents (Elt Ideal)) (hA : A = filled v20 g0 L0 x0)
    (B : v21.ty.Contents (Elt Ideal))
    (hB : B = v21.writes (Elt Ideal) g1 (piece1 x1 x2 x3 v20 A ⟨1, by decide +kernel⟩ :: piece1 x1 x2 x3 v20 A ⟨0, by decide +kernel⟩ :: L1)) :
    v.read (Elt Ideal) (v.writes (Elt Ideal) f [piece2 k0_pay58 x4 x5 x6 x7 x8 v21 B ⟨1, by decide +kernel⟩, piece2 k0_pay58 x4 x5 x6 x7 x8 v21 B ⟨0, by decide +kernel⟩])
      = out17 x0 x1 x2 x3 x4 x5 x6 x7 x8 := by
  subst hA hB
  funext y
  obtain ⟨u, o, p, rfl⟩ : ∃ (u : Fin 1) (o : Fin 80) (p : Fin 16384), y = ix3 u o p := ⟨y 0, y 1, y 2, by funext a; fin_cases a <;> rfl⟩
  obtain rfl := Subsingleton.elim u 0
  refine stage2 v21 x4 x5 x6 x7 x8 _ (fun c => padded (liteOf x1 x2 x3 (img x0) c)) (fun c j => ?_) v f o p
  refine (stage1 v20 v21 x1 x2 x3 _ (img x0) (filled_at v20 g0 L0 h0 x0) g1 L1 c j).trans ?_
  unfold padded
  split
  · rfl
  · next h => exact h1 c j h

include h0 h1 in
/-- The second result block, as the loops write it; the buffer it reads was written by the first loop before. -/
theorem out18_eq (x1 : Vec Ideal S96x25 .bf16) (x2 : Vec Ideal S128x96 .bf16) (x3 : Vec Ideal S128x1 .f32)
    (x9 : Vec Ideal S96x25 .bf16) (x10 : Vec Ideal S64x96 .bf16) (x11 : Vec Ideal S64x1 .f32)
    (x12 : Vec Ideal S64x25 .bf16) (x13 : Vec Ideal S64x64 .bf16) (x14 : Vec Ideal S64x1 .f32) (x15 : Vec Ideal S8x64 .bf16) (x16 : Vec Ideal S8x1 .f32)
    (v : View sig .tc .vmem S1x8x16384 .f32) (f : v.ty.Contents (Elt Ideal)) (A : v20.ty.Contents (Elt Ideal)) (hA : A = filled v20 g0 L0 x0)
    (B : v21.ty.Contents (Elt Ideal))
    (hB : B = v21.writes (Elt Ideal) g1 (piece3 k0_pay58 x9 x10 x11 v20 A ⟨1, by decide +kernel⟩ :: piece3 k0_pay58 x9 x10 x11 v20 A ⟨0, by decide +kernel⟩
      :: piece1 x1 x2 x3 v20 A ⟨1, by decide +kernel⟩ :: piece1 x1 x2 x3 v20 A ⟨0, by decide +kernel⟩ :: L1)) :
    Pad (v21.read (Elt Ideal) B)
    ∧ v.read (Elt Ideal) (v.writes (Elt Ideal) f [piece4 k0_pay58 x12 x13 x14 x15 x16 v21 B ⟨1, by decide +kernel⟩, piece4 k0_pay58 x12 x13 x14 x15 x16 v21 B ⟨0, by decide +kernel⟩])
      = out18 x0 x9 x10 x11 x12 x13 x14 x15 x16 := by
  subst hA hB
  have hp (c : Fin 128) (j : Fin 17152) (h : ¬(384 ≤ j.val ∧ j.val < 16768)) :
      v21.read (Elt Ideal) (v21.writes (Elt Ideal) g1 (piece1 x1 x2 x3 v20 (filled v20 g0 L0 x0) ⟨1, by decide +kernel⟩ :: piece1 x1 x2 x3 v20 (filled v20 g0 L0 x0) ⟨0, by decide +kernel⟩ :: L1)) (ix2 c j) = 0 :=
    (stage1 v20 v21 x1 x2 x3 _ (img x0) (filled_at v20 g0 L0 h0 x0) g1 L1 c j).trans ((if_neg h).trans (h1 c j h))
  constructor
  · intro c j h
    refine (store_pad v21 g1 _ (k0_off6_inb _) 8576 (k0_off6_eq ⟨1, by decide +kernel⟩) (by omega) (by omega) _ c j h).trans ?_
    exact (store_pad v21 g1 _ (k0_off6_inb _) 384 (k0_off6_eq ⟨0, by decide +kernel⟩) (by omega) (by omega) _ c j h).trans (hp c j h)
  · funext y
    obtain ⟨u, o, p, rfl⟩ : ∃ (u : Fin 1) (o : Fin 8) (p : Fin 16384), y = ix3 u o p := ⟨y 0, y 1, y 2, by funext a; fin_cases a <;> rfl⟩
    obtain rfl := Subsingleton.elim u 0
    refine stage4 v21 x12 x13 x14 x15 x16 _ (fun c => padded (liteOf x9 x10 x11 (img x0) c)) (fun c j => ?_) v f o p
    refine (stage3 v20 v21 x9 x10 x11 _ (img x0) (filled_at v20 g0 L0 h0 x0) g1 _ c j).trans ?_
    unfold padded
    split
    · rfl
    · next h => exact hp _ j h

end

end Cert.KernelIdeal.Value
-- ==== Proof.Body.lean ====
/- The kernel's body, run once: from the input blocks and the two scratch buffers, it leaves the two result blocks and
   keeps the padding of the scratch buffers zero. The first trip of each stretch of eight writes that padding itself. -/
module

public import proofs.«01_k».proof.Proof.Gen.KernelIdeal.Frame.Runs
public import proofs.«01_k».proof.Proof.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Trips Cert.KernelIdeal.Value

/-- A load of a whole matrix reads the matrix. -/
theorem whole_load {a b : ℕ} {e : EltTy} (m : Memref sig .tc .vmem (⟨2, ![a, b]⟩ : Shape) e) (hm : m.IsWhole) (x : Vec Ideal (⟨2, ![a, b]⟩ : Shape) e)
    (inb : ∀ i, (![0, 0] : Fin 2 → ℕ) i + (![a, b] : Fin 2 → ℕ) i ≤ (![a, b] : Fin 2 → ℕ) i) :
    View.readAt (Elt Ideal) m.view (Rect.unit (s := (⟨2, ![a, b]⟩ : Shape)) ![0, 0] ![a, b] inb).toLoadRect (hm.unread x) = x :=
  (View.readAt_full m.view _ inb).trans (hm.read_unread x)

/-- A load of a whole block reads the block. -/
theorem block_load {a b d : ℕ} {e : EltTy} (m : Memref sig .tc .vmem (⟨3, ![a, b, d]⟩ : Shape) e) (hm : m.IsWhole) (x : Vec Ideal (⟨3, ![a, b, d]⟩ : Shape) e)
    (inb : ∀ i, (![0, 0, 0] : Fin 3 → ℕ) i + (![a, b, d] : Fin 3 → ℕ) i ≤ (![a, b, d] : Fin 3 → ℕ) i) :
    View.readAt (Elt Ideal) m.view (Rect.unit (s := (⟨3, ![a, b, d]⟩ : Shape)) ![0, 0, 0] ![a, b, d] inb).toLoadRect (hm.unread x) = x :=
  (View.readAt_full m.view _ inb).trans (hm.read_unread x)

/-- The casts between equal shapes on the last stage's weights. -/
theorem casts (k : Vec Ideal S64x25 .bf16) (w : Vec Ideal S64x64 .bf16) (b : Vec Ideal S64x1 .f32) (h : Vec Ideal S8x64 .bf16) :
    k0_pay66 k = k ∧ k0_pay67 w = w ∧ k0_pay68 b = b ∧ k0_pay69 h = h :=
  ⟨shapeCast_id k _, shapeCast_id w _, shapeCast_id b _, shapeCast_id h _⟩

variable (arg1 : Memref sig .tc .vmem S1x96x16384 .f32) (harg1 : arg1.IsWhole) (arg2 : Memref sig .tc .vmem S96x25 .bf16) (harg2 : arg2.IsWhole) (arg3 : Memref sig .tc .vmem S128x96 .bf16) (harg3 : arg3.IsWhole) (arg4 : Memref sig .tc .vmem S128x1 .f32) (harg4 : arg4.IsWhole) (arg5 : Memref sig .tc .vmem S128x25 .bf16) (harg5 : arg5.IsWhole) (arg6 : Memref sig .tc .vmem S128x128 .bf16) (harg6 : arg6.IsWhole) (arg7 : Memref sig .tc .vmem S128x1 .f32) (harg7 : arg7.IsWhole) (arg8 : Memref sig .tc .vmem S80x128 .bf16) (harg8 : arg8.IsWhole) (arg9 : Memref sig .tc .vmem S80x1 .f32) (harg9 : arg9.IsWhole) (arg10 : Memref sig .tc .vmem S96x25 .bf16) (harg10 : arg10.IsWhole) (arg11 : Memref sig .tc .vmem S64x96 .bf16) (harg11 : arg11.IsWhole) (arg12 : Memref sig .tc .vmem S64x1 .f32) (harg12 : arg12.IsWhole) (arg13 : Memref sig .tc .vmem S64x25 .bf16) (harg13 : arg13.IsWhole) (arg14 : Memref sig .tc .vmem S64x64 .bf16) (harg14 : arg14.IsWhole) (arg15 : Memref sig .tc .vmem S64x1 .f32) (harg15 : arg15.IsWhole) (arg16 : Memref sig .tc .vmem S8x64 .bf16) (harg16 : arg16.IsWhole) (arg17 : Memref sig .tc .vmem S8x1 .f32) (harg17 : arg17.IsWhole) (arg18 : Memref sig .tc .vmem S1x80x16384 .f32) (harg18 : arg18.IsWhole) (arg19 : Memref sig .tc .vmem S1x8x16384 .f32) (harg19 : arg19.IsWhole) (arg20 : Memref sig .tc .vmem S96x17152 .bf16) (harg20 : arg20.IsWhole) (arg21 : Memref sig .tc .vmem S128x17152 .bf16) (harg21 : arg21.IsWhole)

set_option maxHeartbeats 8000000 in
/-- One trip: if it does not write the zero padding itself, it needs the padding zero already. -/
theorem run (c : Dev nD) (i : grid0.Coords) (x0 : Vec Ideal S1x96x16384 .f32) (x1 : Vec Ideal S96x25 .bf16) (x2 : Vec Ideal S128x96 .bf16) (x3 : Vec Ideal S128x1 .f32) (x4 : Vec Ideal S128x25 .bf16) (x5 : Vec Ideal S128x128 .bf16) (x6 : Vec Ideal S128x1 .f32) (x7 : Vec Ideal S80x128 .bf16) (x8 : Vec Ideal S80x1 .f32) (x9 : Vec Ideal S96x25 .bf16) (x10 : Vec Ideal S64x96 .bf16) (x11 : Vec Ideal S64x1 .f32) (x12 : Vec Ideal S64x25 .bf16) (x13 : Vec Ideal S64x64 .bf16) (x14 : Vec Ideal S64x1 .f32) (x15 : Vec Ideal S8x64 .bf16) (x16 : Vec Ideal S8x1 .f32) (s0 : Vec Ideal S96x17152 .bf16) (s1 : Vec Ideal S128x17152 .bf16)
    (hs : ¬cond0_0 i → Pad s0 ∧ Pad s1) (E : Set ℕ) (K : PUnit → sProp (MT nD τ sig Unit (Elt Ideal) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare s0 ∗ owns (c : Thread nD τ) arg21 fullShare s1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out17 x0 x1 x2 x3 x4 x5 x6 x7 x8) ∗ owns (c : Thread nD τ) arg19 fullShare (out18 x0 x9 x10 x11 x12 x13 x14 x15 x16)
        ∗ ∃ t0 t1, owns (c : Thread nD τ) arg20 fullShare t0 ∗ owns (c : Thread nD τ) arg21 fullShare t1 ∗ ⌜Pad t0 ∧ Pad t1⌝) -∗ K ⟨⟩))
          ⊢ wp frame (wpE (defs₀ (F := Ideal)) Variants.none c none) E (cc0__ttf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs0; obtain rfl := harg21.eq_unread hfs1
  simp only [cc0__ttf_kernel_eq_skeleton]; unfold cc0__ttf_kernel_skel
  simp only [k0_part13_eq_skeleton, k0_part14_eq_skeleton]
  by_cases hc0 : cond0_0 i
  case' pos =>
    sl_exec (disch := first | sl_exact hc0)
    sl_step
    have hk0 := pad20 arg20.view arg20.view.junk
    have hk1 := pad21 arg21.view (harg21.unread s1)
    have e0 : run.sl.r arg13 harg13 x12 = x12 := by
      unfold run.sl.r; rw [whole_load]; exact (casts x12 x13 x14 x15).1
    have e1 : run.sl.r_1 arg14 harg14 x13 = x13 := by
      unfold run.sl.r_1; rw [whole_load]; exact (casts x12 x13 x14 x15).2.1
    have e2 : run.sl.r_2 arg15 harg15 x14 = x14 := by
      unfold run.sl.r_2; rw [whole_load]; exact (casts x12 x13 x14 x15).2.2.1
    have e3 : run.sl.r_3 arg16 harg16 x15 = x15 := by
      unfold run.sl.r_3; rw [whole_load]; exact (casts x12 x13 x14 x15).2.2.2
    have e4 : run.sl.HS0_3 arg1 harg1 x0 = imageStore x0 :: zeros20 := by
      unfold run.sl.HS0_3; rw [block_load]; rfl
    have e5 : [(⟨Rect.unit (s := S128x17152) ![0, 16768] S128x384.size inb_S128x17152_S128x384_0_16768, k0_pay57 (F := Ideal)⟩ : View.Piece (Elt Ideal) S128x17152 .bf16),
        ⟨Rect.unit (s := S128x17152) ![0, 0] S128x384.size inb_S128x17152_S128x384_0_0, k0_pay56 (F := Ideal)⟩] = zeros21 := rfl
    rw [e4, e5]
    obtain ⟨A, hA⟩ : ∃ A, arg20.view.writes (Elt Ideal) arg20.view.junk (imageStore x0 :: zeros20) = A := ⟨_, rfl⟩
  case' neg =>
    obtain ⟨hp0, hp1⟩ := hs hc0
    sl_exec (disch := first | sl_exact hc0)
    sl_step
    have hk0 : Pad (arg20.view.read (Elt Ideal) (arg20.view.writes (Elt Ideal) (harg20.unread s0) [])) := by
      rw [View.writes_nil, harg20.read_unread]; exact hp0
    have hk1 : Pad (arg21.view.read (Elt Ideal) (arg21.view.writes (Elt Ideal) (harg21.unread s1) [])) := by
      rw [View.writes_nil, harg21.read_unread]; exact hp1
    have e0 : run.sl.r_4 arg13 harg13 x12 = x12 := by
      unfold run.sl.r_4; rw [whole_load]; exact (casts x12 x13 x14 x15).1
    have e1 : run.sl.r_5 arg14 harg14 x13 = x13 := by
      unfold run.sl.r_5; rw [whole_load]; exact (casts x12 x13 x14 x15).2.1
    have e2 : run.sl.r_6 arg15 harg15 x14 = x14 := by
      unfold run.sl.r_6; rw [whole_load]; exact (casts x12 x13 x14 x15).2.2.1
    have e3 : run.sl.r_7 arg16 harg16 x15 = x15 := by
      unfold run.sl.r_7; rw [whole_load]; exact (casts x12 x13 x14 x15).2.2.2
    have e4 : [(⟨Rect.unit (s := S96x17152) ![0, 384] S96x16384.size inb_S96x17152_S96x16384_0_384,
        k0_pay59 (View.readAt (Elt Ideal) arg1.view (Rect.unit (s := S1x96x16384) ![0, 0, 0] S1x96x16384.size inb_S1x96x16384_S1x96x16384_0_0_0).toLoadRect (harg1.unread x0))⟩ : View.Piece (Elt Ideal) S96x17152 .bf16)]
          = [imageStore x0] := by
      rw [block_load]; rfl
    rw [e4]
    obtain ⟨A, hA⟩ : ∃ A, arg20.view.writes (Elt Ideal) (harg20.unread s0) [imageStore x0] = A := ⟨_, rfl⟩
  all_goals
    rw [hA, loop1, loop2, loop3, loop4, e0, e1, e2, e3]
    simp only [whole_load arg2 harg2 x1, whole_load arg3 harg3 x2, whole_load arg4 harg4 x3, whole_load arg5 harg5 x4, whole_load arg6 harg6 x5, whole_load arg7 harg7 x6, whole_load arg8 harg8 x7, whole_load arg9 harg9 x8, whole_load arg10 harg10 x9, whole_load arg11 harg11 x10, whole_load arg12 harg12 x11, whole_load arg13 harg13 x12, whole_load arg14 harg14 x13, whole_load arg15 harg15 x14, whole_load arg16 harg16 x15, whole_load arg17 harg17 x16, List.cons_append, List.nil_append, List.append_nil]
    generalize hC17 : arg18.view.writes (Elt Ideal) _ _ = C17
    generalize hC18 : arg19.view.writes (Elt Ideal) _ _ = C18
    generalize hB : arg21.view.writes (Elt Ideal) _ _ = B
    have h17 : arg18.view.read (Elt Ideal) C17 = out17 x0 x1 x2 x3 x4 x5 x6 x7 x8 := by
      rw [← hC17]
      exact out17_eq arg20.view _ _ hk0 arg21.view _ _ hk1 x0 x1 x2 x3 x4 x5 x6 x7 x8 arg18.view _ A hA.symm _ rfl
    have h18 : Pad (arg21.view.read (Elt Ideal) B) ∧ arg19.view.read (Elt Ideal) C18 = out18 x0 x9 x10 x11 x12 x13 x14 x15 x16 := by
      rw [← hC18, hB]
      exact out18_eq arg20.view _ _ hk0 arg21.view _ _ hk1 x0 x1 x2 x3 x9 x10 x11 x12 x13 x14 x15 x16 arg19.view _ A hA.symm B hB.symm
    have hp : Pad (arg20.view.read (Elt Ideal) A) := by
      rw [← hA]; exact filled_pad arg20.view _ _ hk0 x0
    clear hC17 hC18 hB hA hk0 hk1
    iapply Hk
    isplitl [H0]
    · iexists (harg1.unread x0); isplitr; · ipureintro; exact harg1.read_unread x0
      iexact H0
    isplitl [H1]
    · iexists (harg2.unread x1); isplitr; · ipureintro; exact harg2.read_unread x1
      iexact H1
    isplitl [H2]
    · iexists (harg3.unread x2); isplitr; · ipureintro; exact harg3.read_unread x2
      iexact H2
    isplitl [H3]
    · iexists (harg4.unread x3); isplitr; · ipureintro; exact harg4.read_unread x3
      iexact H3
    isplitl [H4]
    · iexists (harg5.unread x4); isplitr; · ipureintro; exact harg5.read_unread x4
      iexact H4
    isplitl [H5]
    · iexists (harg6.unread x5); isplitr; · ipureintro; exact harg6.read_unread x5
      iexact H5
    isplitl [H6]
    · iexists (harg7.unread x6); isplitr; · ipureintro; exact harg7.read_unread x6
      iexact H6
    isplitl [H7]
    · iexists (harg8.unread x7); isplitr; · ipureintro; exact harg8.read_unread x7
      iexact H7
    isplitl [H8]
    · iexists (harg9.unread x8); isplitr; · ipureintro; exact harg9.read_unread x8
      iexact H8
    isplitl [H9]
    · iexists (harg10.unread x9); isplitr; · ipureintro; exact harg10.read_unread x9
      iexact H9
    isplitl [H10]
    · iexists (harg11.unread x10); isplitr; · ipureintro; exact harg11.read_unread x10
      iexact H10
    isplitl [H11]
    · iexists (harg12.unread x11); isplitr; · ipureintro; exact harg12.read_unread x11
      iexact H11
    isplitl [H12]
    · iexists (harg13.unread x12); isplitr; · ipureintro; exact harg13.read_unread x12
      iexact H12
    isplitl [H13]
    · iexists (harg14.unread x13); isplitr; · ipureintro; exact harg14.read_unread x13
      iexact H13
    isplitl [H14]
    · iexists (harg15.unread x14); isplitr; · ipureintro; exact harg15.read_unread x14
      iexact H14
    isplitl [H15]
    · iexists (harg16.unread x15); isplitr; · ipureintro; exact harg16.read_unread x15
      iexact H15
    isplitl [H16]
    · iexists (harg17.unread x16); isplitr; · ipureintro; exact harg17.read_unread x16
      iexact H16
    isplitl [H17]
    · iexists C17; isplitr; · ipureintro; exact h17
      iexact H17
    isplitl [H18]
    · iexists C18; isplitr; · ipureintro; exact h18.2
      iexact H18
    iexists (arg20.view.read (Elt Ideal) A), (arg21.view.read (Elt Ideal) B)
    isplitl [HS0]
    · iexists A; isplitr; · ipureintro; exact rfl
      iexact HS0
    isplitl [HS1]
    · iexists B; isplitr; · ipureintro; exact rfl
      iexact HS1
    ipureintro
    exact ⟨hp, h18.1⟩

end Cert.KernelIdeal.Body
-- ==== Proof.Launch.lean ====
/- The launch: what the pipeline's windows hold after each grid point, the body's obligation at every point, the run of the
   whole program, and the frame claim for the program over the extended reals. -/
module

public import proofs.«01_k».proof.Proof.Body
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Value

local notation "𝕄" => MT nD τ sig Unit (Elt Ideal) ℕ (UR sig nD τ) ℕ

variable (m : (ℓ : Loc nD τ sig) → Buf (Elt Ideal) ℓ) (ρ : Dev nD → PrngReg)

/-- The first result block after point `t`. -/
def res17 (c : Dev nD) (t : Fin cfg0.N) : Vec Ideal S1x80x16384 .f32 :=
  out17 (iblk m c 0 t) (iblk m c 1 t) (iblk m c 2 t) (iblk m c 3 t) (iblk m c 4 t) (iblk m c 5 t) (iblk m c 6 t) (iblk m c 7 t) (iblk m c 8 t)

/-- The second result block after point `t`. -/
def res18 (c : Dev nD) (t : Fin cfg0.N) : Vec Ideal S1x8x16384 .f32 :=
  out18 (iblk m c 0 t) (iblk m c 9 t) (iblk m c 10 t) (iblk m c 11 t) (iblk m c 12 t) (iblk m c 13 t) (iblk m c 14 t) (iblk m c 15 t) (iblk m c 16 t)

/-- The scratch buffers with zero padding, and the generator register at some state. -/
def padded (c : Dev nD) : sProp 𝕄 :=
  iprop((∃ t0 t1, owns (c : Thread nD τ) scM0_0 fullShare t0 ∗ owns (c : Thread nD τ) scM0_1 fullShare t1 ∗ ⌜Pad t0 ∧ Pad t1⌝) ∗ (∃ r, prngReg c r))

/-- The invariant before point `n`: before the first anything, afterwards zero padding. -/
def PhiS (c : Dev nD) : (n : ℕ) → n ≤ cfg0.N → sProp 𝕄
  | 0, _ => Pipeline.ΦA spec0 c
  | n + 1, _ => padded c

theorem PhiS_pos (c : Dev nD) (n : ℕ) (h : n ≤ cfg0.N) (hz : n ≠ 0) : PhiS c n h = padded c := by
  cases n with
  | zero => exact absurd rfl hz
  | succ n => rfl

/-- Zero padding is a special case of anything. -/
theorem padded_forget (c : Dev nD) : padded c ⊢ (Pipeline.ΦA spec0 c : sProp 𝕄) := by
  rw [PhiA0_eq]; unfold padded
  iintro ⟨⟨%t0, %t1, HS0, HS1, -⟩, Hg⟩
  isplitl [HS0 HS1]
  · isplitl [HS0]
    · iexists _; iexact HS0
    iexists _; iexact HS1
  iexact Hg

/-- Before any point: the scratch buffers hold something, with zero padding unless the point is the first. -/
theorem PhiS_any (c : Dev nD) (n : ℕ) (h : n ≤ cfg0.N) :
    PhiS c n h ⊢ iprop((∃ t0 t1, owns (c : Thread nD τ) scM0_0 fullShare t0 ∗ owns (c : Thread nD τ) scM0_1 fullShare t1 ∗ ⌜n ≠ 0 → Pad t0 ∧ Pad t1⌝) ∗ (∃ r, prngReg c r)) := by
  by_cases hz : n = 0
  · subst hz
    rw [show PhiS c 0 h = Pipeline.ΦA spec0 c from rfl, PhiA0_eq]
    iintro ⟨⟨⟨%d0, HS0⟩, ⟨%d1, HS1⟩⟩, Hg⟩
    isplitl [HS0 HS1]
    · iexists _, _
      isplitl [HS0]; · iexact HS0
      isplitl [HS1]; · iexact HS1
      ipureintro; exact fun h => absurd rfl h
    iexact Hg
  · rw [PhiS_pos c n h hz]; unfold padded
    iintro ⟨⟨%t0, %t1, HS0, HS1, %hp⟩, Hg⟩
    isplitl [HS0 HS1]
    · iexists _, _
      isplitl [HS0]; · iexact HS0
      isplitl [HS1]; · iexact HS1
      ipureintro; exact fun _ => hp
    iexact Hg

/-- The proof data of the pipeline on core `c`: the arrays as the region finds them, each input's buffer at its block after
every point, the two results' at the blocks above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => res17 m c t
    | ⟨18, _⟩ => res18 m c t
    | ⟨_ + 19, h⟩ => absurd h (Nat.not_lt.2 (Nat.le_add_left _ _))
  Φ t := PhiS c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS c t.val (Nat.le_of_lt t.isLt) := by
  dsimp only [dats]; exact Pipeline.Dat.Φ_castSucc (PhiS c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = res17 m c t := by dsimp only [dats]
theorem after0_18 (c : Dev nD) (t : Fin cfg0.N) : (dats m 0 c).after 18 t = res18 m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d
theorem before0_16 (c : Dev nD) (t : Fin cfg0.N) (d) : (dats m 0 c).before 16 t d = iblk m c 16 t := before0_16_of m (dats m 0 c) (A_eq m c 16) (after0_16 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))
/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = padded c from rfl, PhiS_castSucc m c t]
  refine (sep_mono_left (PhiS_any c t.val (Nat.le_of_lt t.isLt))).trans ?_
  have hN : t.val < 8 := lt_of_lt_of_eq t.isLt (show cfg0.N = 8 from N_0)
  iintro ⟨⟨⟨%s0, %s1, HS0, HS1, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hs' : ¬cond0_0 (grid0.coords t) → Pad s0 ∧ Pad s1 := fun h => hs fun hz => h ((hcond0_0 t).mpr (by rw [hz]))
  iapply (Body.run _ _ _ _ _ _ _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s0 s1 hs')
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [HS0]; · iexact HS0
  isplitl [HS1]; · iexact HS1
  iintro ⟨H0, H1, H2, H3, H4, H5, H6, H7, H8, H9, H10, H11, H12, H13, H14, H15, H16, H17, H18, HS⟩
  unfold padded
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl
/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back. -/
theorem hout (c : Dev nD) : (dats m 0 c).Φ (Fin.last cfg0.N) ⊢ Pipeline.ΦA spec0 c := by
  rw [show (dats m 0 c).Φ (Fin.last cfg0.N) = PhiS c cfg0.N (Nat.le_refl _) from rfl, PhiS_pos c _ _ (by have : cfg0.N = 8 := N_0; omega)]
  exact padded_forget c

-- the launch theorem's implicit arguments are found by unifying its conclusion with this one
set_option backward.isDefEq.respectTransparency.types false in
set_option maxHeartbeats 800000 in
/-- The run of the program: every array of the pipeline ends at what the proof data says, every other buffer as the
remaining lines leave it, and every semaphore counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)
/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)
/-- The frame claim: the argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Launch
-- ==== Proof.Window.lean ====
/- The five by five window summed over its rows and columns of a zero padded image is the depthwise window `Cert.Conv.dw`
   of the image's row of pixels. -/
module

public import proofs.«01_k».proof.Proof.Conv

@[expose] public section

set_option maxRecDepth 16384

noncomputable section

namespace Cert.Conv

/-- A pixel of the zero padded image: row `r` and column `s` count from two rows above and two columns left of the image. -/
def pix (h : ℕ → EReal) (r s : ℕ) : EReal := if 2 ≤ r ∧ r < 130 ∧ 2 ≤ s ∧ s < 130 then h (128 * (r - 2) + (s - 2)) else 0

/-- A tap inside the image's columns reads the row of pixels where the padded image has that pixel. -/
theorem padded_pix (h : ℕ → EReal) (i j a b n : ℕ) (hi : i < 128) (hj : j < 128) (hb : 2 ≤ j + b) (hb' : j + b < 130)
    (hn : n = 128 * (i + a) + (j + b) + 126) : padded h n = pix h (i + a) (j + b) := by
  subst hn
  unfold padded pix
  by_cases hr : 2 ≤ i + a ∧ i + a < 130
  · rw [if_pos (by omega), if_pos ⟨hr.1, hr.2, hb, hb'⟩]
    congr 1; omega
  · rw [if_neg (by omega), if_neg (by omega)]

/-- A tap outside the image's columns is zero. -/
theorem pix_out (h : ℕ → EReal) (r s : ℕ) (hs : s < 2 ∨ 130 ≤ s) : pix h r s = 0 := by
  unfold pix; rw [if_neg (by omega)]

/-- One column of the window, masked where it leaves the image. -/
theorem column (h : ℕ → EReal) (i j b : ℕ) (hi : i < 128) (hj : j < 128) (C : Prop) [Decidable C] (hC : C ↔ 2 ≤ j + b ∧ j + b < 130)
    (n : ℕ) (hn : n = 128 * i + (j + b) + 126) (k0 k1 k2 k3 k4 : EReal) :
    (if C then taps (padded h) n k0 k1 k2 k3 k4 else 0)
      = pix h (i + 0) (j + b) * k0 + pix h (i + 1) (j + b) * k1 + pix h (i + 2) (j + b) * k2 + pix h (i + 3) (j + b) * k3
        + pix h (i + 4) (j + b) * k4 := by
  by_cases c : C
  · have hb := hC.1 c
    rw [if_pos c]
    unfold taps
    rw [padded_pix h i j 0 b n hi hj hb.1 hb.2 (by omega), padded_pix h i j 1 b (n + 128) hi hj hb.1 hb.2 (by omega),
      padded_pix h i j 2 b (n + 256) hi hj hb.1 hb.2 (by omega), padded_pix h i j 3 b (n + 384) hi hj hb.1 hb.2 (by omega),
      padded_pix h i j 4 b (n + 512) hi hj hb.1 hb.2 (by omega)]
  · have hs : j + b < 2 ∨ 130 ≤ j + b := by
      by_contra hx; exact c (hC.2 (by omega))
    rw [if_neg c]
    simp only [pix_out h _ _ hs, zero_mul, add_zero]

/-- The whole window: the sum over rows and columns, clipped. -/
theorem dw_window (h : ℕ → EReal) (k : Fin 25 → EReal) (i j : ℕ) (hi : i < 128) (hj : j < 128) :
    dw (padded h) k (128 * i + j)
      = clip (∑ a : Fin 5, ∑ b : Fin 5, pix h (i + a.val) (j + b.val) * k ⟨5 * a.val + b.val, by omega⟩) := by
  have e : (128 * i + j) % 128 = j := by omega
  have c2 := column h i j 2 hi hj True (by constructor <;> intro _ <;> [omega; trivial]) (128 * i + j + 128) (by omega)
    (k 2) (k 7) (k 12) (k 17) (k 22)
  rw [if_pos trivial] at c2
  unfold dw
  rw [e, c2, column h i j 0 hi hj (2 ≤ j) (by omega) _ (by omega), column h i j 1 hi hj (1 ≤ j) (by omega) _ (by omega),
    column h i j 3 hi hj (j < 127) (by omega) _ (by omega), column h i j 4 hi hj (j < 126) (by omega) _ (by omega),
    Finset.sum_comm, Fin.sum_univ_five]
  simp only [Fin.sum_univ_five]
  refine congrArg clip ?_
  simp only [Fin.isValue, Fin.val_zero, Fin.val_one, Fin.val_two, show ((3 : Fin 5) : ℕ) = 3 from rfl, show ((4 : Fin 5) : ℕ) = 4 from rfl]
  norm_num only
  rw [show ∀ x y z u v : EReal, x + y + z + u + v = y + z + x + u + v from fun x y z u v => by abel]
  rfl

end Cert.Conv
-- ==== Proof.Ref.lean ====
/- The reference, index by index: each LiteConv stage is the sum over the window of the zero padded image, clipped, mixed
   over the channels with a bias, and clipped again; the head is one more channel mix. -/
module

public import proofs.«01_k».proof.Proof.Window
public import proofs.«01_k».proof.Proof.Gen.ReferenceIdeal.Read
public import Idealize.ShloMosaic.Lib.Pointwise

@[expose] public section

set_option maxRecDepth 16384

noncomputable section

namespace Cert.Ref

open Idealize.ShloMosaic Cert.Conv Cert.ReferenceIdeal Cert.ReferenceIdeal.Read

/-- One channel of one image, its pixels in one row. -/
def flat {C : ℕ} (x : FVec Ideal (⟨4, ![8, C, 128, 128]⟩ : Shape) .f32) (n : Fin 8) (c : Fin C) (p : ℕ) : EReal :=
  if h : p < 16384 then x (ix4 n c ⟨p / 128, by omega⟩ ⟨p % 128, by omega⟩) else 0

/-- The padding's value: the integer zero, converted. -/
theorem zero_word : (FloatOps.sitofp (F := Ideal) FTy.f32 (0#32) : EReal) = 0 := by
  show ((((0#32 : BitVec 32).toInt : ℝ)) : EReal) = 0
  simp

/-- The zero padded image, as a padding prints it. -/
theorem pad_pix {C : ℕ} (x : FVec Ideal (⟨4, ![8, C, 128, 128]⟩ : Shape) .f32) (n : Fin 8) (c : Fin C) (r s : ℕ) :
    (if h : (2 ≤ r ∧ r - 2 < 128) ∧ 2 ≤ s ∧ s - 2 < 128 then x (ix4 n c ⟨r - 2, h.1.2⟩ ⟨s - 2, h.2.2⟩)
      else FloatOps.sitofp (F := Ideal) FTy.f32 0#32) = pix (flat x n c) r s := by
  unfold pix flat
  by_cases h : (2 ≤ r ∧ r - 2 < 128) ∧ 2 ≤ s ∧ s - 2 < 128
  · rw [dif_pos h, if_pos (by omega), dif_pos (by omega)]
    congr 2 <;> (apply Fin.ext; simp only []; omega)
  · rw [dif_neg h, if_neg (by omega)]; exact zero_word

/-- The clip's bounds, as the reference prints them. -/
theorem clip_words (y : EReal) :
    min (id (constant (F := Ideal) S_ FTy.f32 1086324736#32) ix0) (max (id (constant (F := Ideal) S_ FTy.f32 0#32) ix0) y) = clip y := by
  have h0 : (id (constant (F := Ideal) S_ FTy.f32 0#32) ix0 : EReal) = 0 := Ideal.ofBits_zero_f32
  rw [h0]; rfl

theorem pad96 (x0 : FVec Ideal (⟨4, ![8, 96, 128, 128]⟩ : Shape) .f32) (n : Fin 8) (c : Fin 96) (r s : Fin 132) :
    val_main_v0 (F := Ideal) x0 (ix4 n c r s) = pix (flat x0 n c) r s := by
  pointwise [val_main_v0, val_main_call0_v0, val_main_c]
  exact pad_pix x0 n c r s

theorem rows96 (x0 : FVec Ideal (⟨4, ![8, 96, 128, 128]⟩ : Shape) .f32) (n : Fin 8) (c : Fin 96) (a : Fin 5) (i : Fin 128) (s : Fin 132) :
    val_main_v11 (F := Ideal) x0 (ix5 n c a i s) = pix (flat x0 n c) (i + a) s := by
  fin_vals a with ha
  all_goals
    pointwise [val_main_v11, val_main_v6, val_main_v7, val_main_v8, val_main_v9, val_main_v10, val_main_v1, val_main_v2, val_main_v3,
      val_main_v4, val_main_v5]
    simp [ha, pad96, Nat.add_comm]

theorem window96 (x0 : FVec Ideal (⟨4, ![8, 96, 128, 128]⟩ : Shape) .f32) (x1 : FVec Ideal (⟨4, ![96, 1, 5, 5]⟩ : Shape) .f32) (n : Fin 8) (c : Fin 96) (i j : Fin 128) :
    val_main_v28 (F := Ideal) x0 x1 (ix4 n c i j) = clip (∑ a : Fin 5, ∑ b : Fin 5, pix (flat x0 n c) (i + a) (j + b) * x1 (ix4 c 0 a b)) := by
  have h : ∀ a b : Fin 5, val_main_v22 (F := Ideal) x0 (ix6 n c a b i j) = pix (flat x0 n c) (i + a) (j + b) := by
    intro a b
    fin_vals b with hb
    all_goals
      pointwise [val_main_v22, val_main_v17, val_main_v18, val_main_v19, val_main_v20, val_main_v21, val_main_v12, val_main_v13, val_main_v14,
        val_main_v15, val_main_v16]
      simp [hb, rows96, Nat.add_comm]
  pointwise [val_main_v28, val_main_call1_v4, val_main_call1_v3, val_main_call1_v2, val_main_call1_v1, val_main_call1_v0,
    val_main_cst_1, val_main_cst_0, val_main_cst, val_main_v27, val_main_v26, val_main_v25, val_main_v24, val_main_v23]
  rw [clip_words]; simp only [h]

theorem lite96 (x0 : FVec Ideal (⟨4, ![8, 96, 128, 128]⟩ : Shape) .f32) (x1 : FVec Ideal (⟨4, ![96, 1, 5, 5]⟩ : Shape) .f32)
    (x2 : FVec Ideal (⟨4, ![128, 96, 1, 1]⟩ : Shape) .f32) (x3 : FVec Ideal (⟨1, ![128]⟩ : Shape) .f32) (n : Fin 8) (o : Fin 128) (i j : Fin 128) :
    val_main_v35 (F := Ideal) x0 x1 x2 x3 (ix4 n o i j) = clip (∑ c, val_main_v28 (F := Ideal) x0 x1 (ix4 n c i j) * x2 (ix4 o c 0 0) + x3 (ix1 o)) := by
  pointwise [val_main_v35, val_main_call2_v4, val_main_call2_v3, val_main_call2_v2, val_main_call2_v1, val_main_call2_v0,
    val_main_cst_2, val_main_cst_3, val_main_v34, val_main_v33, val_main_v32, val_main_v31, val_main_v30, val_main_v29]
  rw [clip_words]

/-- A stage of the reference, given its depthwise part and its channel mix, is `lite` of its input's channels. -/
theorem stage {C O : ℕ} (x : FVec Ideal (⟨4, ![8, C, 128, 128]⟩ : Shape) .f32) (k : FVec Ideal (⟨4, ![C, 1, 5, 5]⟩ : Shape) .f32)
    (w : FVec Ideal (⟨4, ![O, C, 1, 1]⟩ : Shape) .f32) (b : FVec Ideal (⟨1, ![O]⟩ : Shape) .f32)
    (d : FVec Ideal (⟨4, ![8, C, 128, 128]⟩ : Shape) .f32) (y : FVec Ideal (⟨4, ![8, O, 128, 128]⟩ : Shape) .f32)
    (hd : ∀ n c (i j : Fin 128), d (ix4 n c i j) = clip (∑ a : Fin 5, ∑ b : Fin 5, pix (flat x n c) (i + a) (j + b) * k (ix4 c 0 a b)))
    (hy : ∀ n o (i j : Fin 128), y (ix4 n o i j) = clip (∑ c, d (ix4 n c i j) * w (ix4 o c 0 0) + b (ix1 o)))
    (n : Fin 8) (o : Fin O) (p : ℕ) (hp : p < 16384) :
    flat y n o p = lite (fun c t => k (ix4 c 0 ⟨t.val / 5, by omega⟩ ⟨t.val % 5, by omega⟩)) (fun o c => w (ix4 o c 0 0)) (fun o => b (ix1 o))
      (fun c => padded (flat x n c)) o p := by
  unfold flat lite
  rw [dif_pos hp, hy]
  congr 2
  refine Finset.sum_congr rfl fun c _ => ?_
  rw [mul_comm, hd]
  congr 1
  conv_rhs => rw [show p = 128 * (p / 128) + p % 128 by omega]
  rw [dw_window _ _ (p / 128) (p % 128) (by omega) (by omega)]
  congr 1
  refine Finset.sum_congr rfl fun a _ => Finset.sum_congr rfl fun b _ => ?_
  congr 2 <;> (congr 1 <;> (apply Fin.ext; simp only []; omega))

section hm
variable (x0 : FVec Ideal (⟨4, ![8, 96, 128, 128]⟩ : Shape) .f32) (x1 : FVec Ideal (⟨4, ![96, 1, 5, 5]⟩ : Shape) .f32)
  (x2 : FVec Ideal (⟨4, ![128, 96, 1, 1]⟩ : Shape) .f32) (x3 : FVec Ideal (⟨1, ![128]⟩ : Shape) .f32)
  (x4 : FVec Ideal (⟨4, ![128, 1, 5, 5]⟩ : Shape) .f32) (x5 : FVec Ideal (⟨4, ![128, 128, 1, 1]⟩ : Shape) .f32)
  (x6 : FVec Ideal (⟨1, ![128]⟩ : Shape) .f32) (x7 : FVec Ideal (⟨4, ![80, 128, 1, 1]⟩ : Shape) .f32) (x8 : FVec Ideal (⟨1, ![80]⟩ : Shape) .f32)

theorem rows128 (n : Fin 8) (c : Fin 128) (a : Fin 5) (i : Fin 128) (s : Fin 132) :
    val_main_v47 (F := Ideal) x0 x1 x2 x3 (ix5 n c a i s) = pix (flat (val_main_v35 (F := Ideal) x0 x1 x2 x3) n c) (i + a) s := by
  have h : ∀ r s : Fin 132, val_main_v36 (F := Ideal) x0 x1 x2 x3 (ix4 n c r s) = pix (flat (val_main_v35 (F := Ideal) x0 x1 x2 x3) n c) r s := by
    intro r s
    pointwise [val_main_v36, val_main_call3_v0, val_main_c_4]
    exact pad_pix _ n c r s
  fin_vals a with ha
  all_goals
    pointwise [val_main_v47, val_main_v42, val_main_v43, val_main_v44, val_main_v45, val_main_v46, val_main_v37, val_main_v38, val_main_v39,
      val_main_v40, val_main_v41]
    simp [ha, h, Nat.add_comm]

theorem window128 (n : Fin 8) (c : Fin 128) (i j : Fin 128) :
    val_main_v64 (F := Ideal) x0 x1 x2 x3 x4 (ix4 n c i j)
      = clip (∑ a : Fin 5, ∑ b : Fin 5, pix (flat (val_main_v35 (F := Ideal) x0 x1 x2 x3) n c) (i + a) (j + b) * x4 (ix4 c 0 a b)) := by
  have h : ∀ a b : Fin 5, val_main_v58 (F := Ideal) x0 x1 x2 x3 (ix6 n c a b i j)
      = pix (flat (val_main_v35 (F := Ideal) x0 x1 x2 x3) n c) (i + a) (j + b) := by
    intro a b
    fin_vals b with hb
    all_goals
      pointwise [val_main_v58, val_main_v53, val_main_v54, val_main_v55, val_main_v56, val_main_v57, val_main_v48, val_main_v49, val_main_v50,
        val_main_v51, val_main_v52]
      simp [hb, rows128, Nat.add_comm]
  pointwise [val_main_v64, val_main_call4_v4, val_main_call4_v3, val_main_call4_v2, val_main_call4_v1, val_main_call4_v0,
    val_main_cst_5, val_main_cst_6, val_main_cst_7, val_main_v63, val_main_v62, val_main_v61, val_main_v60, val_main_v59]
  rw [clip_words]; simp only [h]

theorem mix128 (n : Fin 8) (o : Fin 128) (i j : Fin 128) :
    val_main_v71 (F := Ideal) x0 x1 x2 x3 x4 x5 x6 (ix4 n o i j)
      = clip (∑ c, val_main_v64 (F := Ideal) x0 x1 x2 x3 x4 (ix4 n c i j) * x5 (ix4 o c 0 0) + x6 (ix1 o)) := by
  pointwise [val_main_v71, val_main_call5_v4, val_main_call5_v3, val_main_call5_v2, val_main_call5_v1, val_main_call5_v0,
    val_main_cst_8, val_main_cst_9, val_main_v70, val_main_v69, val_main_v68, val_main_v67, val_main_v66, val_main_v65]
  rw [clip_words]

theorem head80 (n : Fin 8) (o : Fin 80) (i j : Fin 128) :
    val_main_v77 (F := Ideal) x0 x1 x2 x3 x4 x5 x6 x7 x8 (ix4 n o i j)
      = ∑ c, val_main_v71 (F := Ideal) x0 x1 x2 x3 x4 x5 x6 (ix4 n c i j) * x7 (ix4 o c 0 0) + x8 (ix1 o) := by
  pointwise [val_main_v77, val_main_v76, val_main_v75, val_main_v74, val_main_v73, val_main_v72]

end hm

section wh
variable (x0 : FVec Ideal (⟨4, ![8, 96, 128, 128]⟩ : Shape) .f32) (x9 : FVec Ideal (⟨4, ![96, 1, 5, 5]⟩ : Shape) .f32)
  (x10 : FVec Ideal (⟨4, ![64, 96, 1, 1]⟩ : Shape) .f32) (x11 : FVec Ideal (⟨1, ![64]⟩ : Shape) .f32)
  (x12 : FVec Ideal (⟨4, ![64, 1, 5, 5]⟩ : Shape) .f32) (x13 : FVec Ideal (⟨4, ![64, 64, 1, 1]⟩ : Shape) .f32)
  (x14 : FVec Ideal (⟨1, ![64]⟩ : Shape) .f32) (x15 : FVec Ideal (⟨4, ![4, 64, 1, 1]⟩ : Shape) .f32) (x16 : FVec Ideal (⟨1, ![4]⟩ : Shape) .f32)

/-- The second head's first depthwise part is the first head's, of its own taps. -/
theorem window96' : val_main_v106 (F := Ideal) x0 x9 = val_main_v28 (F := Ideal) x0 x9 := rfl

theorem mix64 (n : Fin 8) (o : Fin 64) (i j : Fin 128) :
    val_main_v113 (F := Ideal) x0 x9 x10 x11 (ix4 n o i j)
      = clip (∑ c, val_main_v28 (F := Ideal) x0 x9 (ix4 n c i j) * x10 (ix4 o c 0 0) + x11 (ix1 o)) := by
  pointwise [val_main_v113, val_main_call8_v4, val_main_call8_v3, val_main_call8_v2, val_main_call8_v1, val_main_call8_v0,
    val_main_cst_14, val_main_cst_15, val_main_v112, val_main_v111, val_main_v110, val_main_v109, val_main_v108, val_main_v107]
  rw [clip_words, window96']

theorem rows64 (n : Fin 8) (c : Fin 64) (a : Fin 5) (i : Fin 128) (s : Fin 132) :
    val_main_v125 (F := Ideal) x0 x9 x10 x11 (ix5 n c a i s) = pix (flat (val_main_v113 (F := Ideal) x0 x9 x10 x11) n c) (i + a) s := by
  have h : ∀ r s : Fin 132, val_main_v114 (F := Ideal) x0 x9 x10 x11 (ix4 n c r s) = pix (flat (val_main_v113 (F := Ideal) x0 x9 x10 x11) n c) r s := by
    intro r s
    pointwise [val_main_v114, val_main_call9_v0, val_main_c_16]
    exact pad_pix _ n c r s
  fin_vals a with ha
  all_goals
    pointwise [val_main_v125, val_main_v120, val_main_v121, val_main_v122, val_main_v123, val_main_v124, val_main_v115, val_main_v116, val_main_v117,
      val_main_v118, val_main_v119]
    simp [ha, h, Nat.add_comm]

theorem window64 (n : Fin 8) (c : Fin 64) (i j : Fin 128) :
    val_main_v142 (F := Ideal) x0 x9 x10 x11 x12 (ix4 n c i j)
      = clip (∑ a : Fin 5, ∑ b : Fin 5, pix (flat (val_main_v113 (F := Ideal) x0 x9 x10 x11) n c) (i + a) (j + b) * x12 (ix4 c 0 a b)) := by
  have h : ∀ a b : Fin 5, val_main_v136 (F := Ideal) x0 x9 x10 x11 (ix6 n c a b i j)
      = pix (flat (val_main_v113 (F := Ideal) x0 x9 x10 x11) n c) (i + a) (j + b) := by
    intro a b
    fin_vals b with hb
    all_goals
      pointwise [val_main_v136, val_main_v131, val_main_v132, val_main_v133, val_main_v134, val_main_v135, val_main_v126, val_main_v127, val_main_v128,
        val_main_v129, val_main_v130]
      simp [hb, rows64, Nat.add_comm]
  pointwise [val_main_v142, val_main_call10_v4, val_main_call10_v3, val_main_call10_v2, val_main_call10_v1, val_main_call10_v0,
    val_main_cst_17, val_main_cst_18, val_main_cst_19, val_main_v141, val_main_v140, val_main_v139, val_main_v138, val_main_v137]
  rw [clip_words]; simp only [h]

theorem mix64' (n : Fin 8) (o : Fin 64) (i j : Fin 128) :
    val_main_v149 (F := Ideal) x0 x9 x10 x11 x12 x13 x14 (ix4 n o i j)
      = clip (∑ c, val_main_v142 (F := Ideal) x0 x9 x10 x11 x12 (ix4 n c i j) * x13 (ix4 o c 0 0) + x14 (ix1 o)) := by
  pointwise [val_main_v149, val_main_call11_v4, val_main_call11_v3, val_main_call11_v2, val_main_call11_v1, val_main_call11_v0,
    val_main_cst_20, val_main_cst_21, val_main_v148, val_main_v147, val_main_v146, val_main_v145, val_main_v144, val_main_v143]
  rw [clip_words]

theorem head4 (n : Fin 8) (o : Fin 4) (i j : Fin 128) :
    val_main_v158 (F := Ideal) x0 x9 x10 x11 x12 x13 x14 x15 x16 (ix4 n o i j)
      = max (∑ c, val_main_v149 (F := Ideal) x0 x9 x10 x11 x12 x13 x14 (ix4 n c i j) * x15 (ix4 o c 0 0) + x16 (ix1 o)) 0
        * Ideal.ofBits .f32 1098907648#32 := by
  pointwise [val_main_v158, val_main_v157, val_main_cst_22, val_main_v156, val_main_call12_v0, val_main_call12_cst, val_main_v155, val_main_v154,
    val_main_v153, val_main_v152, val_main_v151, val_main_v150]

end wh

end Cert.Ref
-- ==== Proof.Match.lean ====
/- The kernel's result blocks are the reference's results: the two nested stages and the head, stage by stage. -/
module

public import proofs.«01_k».proof.Proof.Ref
public import proofs.«01_k».proof.Proof.Value

@[expose] public section

set_option maxRecDepth 16384

noncomputable section

namespace Cert.Match

open Idealize.ShloMosaic Cert.Conv Cert.Ref Cert.ReferenceIdeal.Read
open Cert.KernelIdeal.Stages Cert.KernelIdeal.Value

/-- Taps of a depthwise part, laid out as one row per channel. -/
def Taps {C : ℕ} (x : (⟨2, ![C, 25]⟩ : Shape).Idx → EReal) (k : FVec Ideal (⟨4, ![C, 1, 5, 5]⟩ : Shape) .f32) : Prop :=
  ∀ (c : Fin C) (t : Fin 25), x (ix2 c t) = k (ix4 c 0 ⟨t.val / 5, by omega⟩ ⟨t.val % 5, by omega⟩)

/-- Weights of a channel mix, laid out as a matrix. -/
def Mix {O C : ℕ} (x : (⟨2, ![O, C]⟩ : Shape).Idx → EReal) (w : FVec Ideal (⟨4, ![O, C, 1, 1]⟩ : Shape) .f32) : Prop :=
  ∀ (o : Fin O) (c : Fin C), x (ix2 o c) = w (ix4 o c 0 0)

/-- A bias, laid out as a column. -/
def Bias {O : ℕ} (x : (⟨2, ![O, 1]⟩ : Shape).Idx → EReal) (b : FVec Ideal (⟨1, ![O]⟩ : Shape) .f32) : Prop :=
  ∀ o : Fin O, x (ix2 o 0) = b (ix1 o)

/-- Image `n` of a batch, as a block. -/
def Image (x : FVec Ideal (⟨3, ![1, 96, 16384]⟩ : Shape) .f32) (n : Fin 8) (y : FVec Ideal (⟨4, ![8, 96, 128, 128]⟩ : Shape) .f32) : Prop :=
  ∀ (c : Fin 96) (p : Fin 16384), x (ix3 0 c p) = y (ix4 n c ⟨p.val / 128, by omega⟩ ⟨p.val % 128, by omega⟩)

/-- Padding looks at the pixels alone. -/
theorem padded_congr (f g : ℕ → EReal) (h : ∀ p, p < 16384 → f p = g p) : padded f = padded g := by
  funext j
  unfold padded
  split
  · exact h _ (by omega)
  · rfl

theorem img_eq (x : FVec Ideal (⟨3, ![1, 96, 16384]⟩ : Shape) .f32) (n : Fin 8) (y : FVec Ideal (⟨4, ![8, 96, 128, 128]⟩ : Shape) .f32) (h : Image x n y) :
    img x = fun c => padded (flat y n c) := by
  funext c
  refine padded_congr _ _ fun p hp => ?_
  unfold flat
  rw [dif_pos hp, dif_pos hp, h]

theorem lite_eq {C O : ℕ} (x : (⟨2, ![C, 25]⟩ : Shape).Idx → EReal) (w : (⟨2, ![O, C]⟩ : Shape).Idx → EReal) (b : (⟨2, ![O, 1]⟩ : Shape).Idx → EReal)
    (k : FVec Ideal (⟨4, ![C, 1, 5, 5]⟩ : Shape) .f32) (w' : FVec Ideal (⟨4, ![O, C, 1, 1]⟩ : Shape) .f32) (b' : FVec Ideal (⟨1, ![O]⟩ : Shape) .f32)
    (hk : Taps x k) (hw : Mix w w') (hb : Bias b b') (X : Fin C → ℕ → EReal) :
    liteOf x w b X = lite (fun c t => k (ix4 c 0 ⟨t.val / 5, by omega⟩ ⟨t.val % 5, by omega⟩)) (fun o c => w' (ix4 o c 0 0)) (fun o => b' (ix1 o)) X := by
  unfold liteOf
  congr 1
  · funext c t; exact hk c t
  · funext o c; exact hw o c
  · funext o; exact hb o

theorem head_eq {C O O' : ℕ} (w : (⟨2, ![O, C]⟩ : Shape).Idx → EReal) (b : (⟨2, ![O, 1]⟩ : Shape).Idx → EReal)
    (w' : FVec Ideal (⟨4, ![O', C, 1, 1]⟩ : Shape) .f32) (b' : FVec Ideal (⟨1, ![O']⟩ : Shape) .f32) (o : Fin O) (o' : Fin O')
    (hw : ∀ c, w (ix2 o c) = w' (ix4 o' c 0 0)) (hb : b (ix2 o 0) = b' (ix1 o'))
    (h : Fin C → ℕ → EReal) (y : FVec Ideal (⟨4, ![8, C, 128, 128]⟩ : Shape) .f32) (n : Fin 8) (hy : ∀ c p, p < 16384 → h c p = flat y n c p) (p : ℕ) (hp : p < 16384) :
    headOf w b h o p = ∑ c, y (ix4 n c ⟨p / 128, by omega⟩ ⟨p % 128, by omega⟩) * w' (ix4 o' c 0 0) + b' (ix1 o') := by
  unfold headOf head
  beta_reduce
  rw [hb]
  congr 1
  refine Finset.sum_congr rfl fun c _ => ?_
  rw [hw, hy c p hp, flat, dif_pos hp, mul_comm]

theorem first (n : Fin 8) (y0 : FVec Ideal (⟨3, ![1, 96, 16384]⟩ : Shape) .f32) (y1 : (⟨2, ![96, 25]⟩ : Shape).Idx → EReal) (y2 : (⟨2, ![128, 96]⟩ : Shape).Idx → EReal)
    (y3 : (⟨2, ![128, 1]⟩ : Shape).Idx → EReal) (y4 : (⟨2, ![128, 25]⟩ : Shape).Idx → EReal) (y5 : (⟨2, ![128, 128]⟩ : Shape).Idx → EReal)
    (y6 : (⟨2, ![128, 1]⟩ : Shape).Idx → EReal) (y7 : (⟨2, ![80, 128]⟩ : Shape).Idx → EReal) (y8 : (⟨2, ![80, 1]⟩ : Shape).Idx → EReal)
    (x0 : FVec Ideal (⟨4, ![8, 96, 128, 128]⟩ : Shape) .f32) (x1 : FVec Ideal (⟨4, ![96, 1, 5, 5]⟩ : Shape) .f32)
    (x2 : FVec Ideal (⟨4, ![128, 96, 1, 1]⟩ : Shape) .f32) (x3 : FVec Ideal (⟨1, ![128]⟩ : Shape) .f32)
    (x4 : FVec Ideal (⟨4, ![128, 1, 5, 5]⟩ : Shape) .f32) (x5 : FVec Ideal (⟨4, ![128, 128, 1, 1]⟩ : Shape) .f32)
    (x6 : FVec Ideal (⟨1, ![128]⟩ : Shape) .f32) (x7 : FVec Ideal (⟨4, ![80, 128, 1, 1]⟩ : Shape) .f32) (x8 : FVec Ideal (⟨1, ![80]⟩ : Shape) .f32)
    (h0 : Image y0 n x0) (h1 : Taps y1 x1) (h2 : Mix y2 x2) (h3 : Bias y3 x3) (h4 : Taps y4 x4) (h5 : Mix y5 x5) (h6 : Bias y6 x6) (h7 : Mix y7 x7) (h8 : Bias y8 x8)
    (o : Fin 80) (p : Fin 16384) :
    out17 y0 y1 y2 y3 y4 y5 y6 y7 y8 (ix3 0 o p) = val_main_v77 (F := Ideal) x0 x1 x2 x3 x4 x5 x6 x7 x8 (ix4 n o ⟨p.val / 128, by omega⟩ ⟨p.val % 128, by omega⟩) := by
  rw [head80]
  show headOf y7 y8 _ o p.val = _
  refine head_eq y7 y8 x7 x8 o o (h7 o) (h8 o) _ _ n (fun c p hp => ?_) p.val p.isLt
  rw [stage _ x4 x5 x6 _ _ (window128 x0 x1 x2 x3 x4) (mix128 x0 x1 x2 x3 x4 x5 x6) n c p hp, lite_eq y4 y5 y6 x4 x5 x6 h4 h5 h6]
  congr 1
  funext c
  refine padded_congr _ _ fun p hp => ?_
  rw [stage _ x1 x2 x3 _ _ (window96 x0 x1) (lite96 x0 x1 x2 x3) n c p hp, lite_eq y1 y2 y3 x1 x2 x3 h1 h2 h3, img_eq y0 n x0 h0]

theorem second (n : Fin 8) (y0 : FVec Ideal (⟨3, ![1, 96, 16384]⟩ : Shape) .f32) (y9 : (⟨2, ![96, 25]⟩ : Shape).Idx → EReal) (y10 : (⟨2, ![64, 96]⟩ : Shape).Idx → EReal)
    (y11 : (⟨2, ![64, 1]⟩ : Shape).Idx → EReal) (y12 : (⟨2, ![64, 25]⟩ : Shape).Idx → EReal) (y13 : (⟨2, ![64, 64]⟩ : Shape).Idx → EReal)
    (y14 : (⟨2, ![64, 1]⟩ : Shape).Idx → EReal) (y15 : (⟨2, ![8, 64]⟩ : Shape).Idx → EReal) (y16 : (⟨2, ![8, 1]⟩ : Shape).Idx → EReal)
    (x0 : FVec Ideal (⟨4, ![8, 96, 128, 128]⟩ : Shape) .f32) (x9 : FVec Ideal (⟨4, ![96, 1, 5, 5]⟩ : Shape) .f32)
    (x10 : FVec Ideal (⟨4, ![64, 96, 1, 1]⟩ : Shape) .f32) (x11 : FVec Ideal (⟨1, ![64]⟩ : Shape) .f32)
    (x12 : FVec Ideal (⟨4, ![64, 1, 5, 5]⟩ : Shape) .f32) (x13 : FVec Ideal (⟨4, ![64, 64, 1, 1]⟩ : Shape) .f32)
    (x14 : FVec Ideal (⟨1, ![64]⟩ : Shape) .f32) (x15 : FVec Ideal (⟨4, ![4, 64, 1, 1]⟩ : Shape) .f32) (x16 : FVec Ideal (⟨1, ![4]⟩ : Shape) .f32)
    (h0 : Image y0 n x0) (h9 : Taps y9 x9) (h10 : Mix y10 x10) (h11 : Bias y11 x11) (h12 : Taps y12 x12) (h13 : Mix y13 x13) (h14 : Bias y14 x14)
    (o : Fin 4) (h15 : ∀ c : Fin 64, y15 (ix2 (o.castLE (by decide)) c) = x15 (ix4 o c 0 0)) (h16 : y16 (ix2 (o.castLE (by decide)) 0) = x16 (ix1 o))
    (p : Fin 16384) :
    out18 y0 y9 y10 y11 y12 y13 y14 y15 y16 (ix3 0 (o.castLE (by decide)) p)
      = val_main_v158 (F := Ideal) x0 x9 x10 x11 x12 x13 x14 x15 x16 (ix4 n o ⟨p.val / 128, by omega⟩ ⟨p.val % 128, by omega⟩) := by
  rw [head4]
  show max (headOf y15 y16 _ (o.castLE (by decide)) p.val) 0 * _ = _
  congr 2
  refine head_eq y15 y16 x15 x16 (o.castLE (by decide)) o h15 h16 _ _ n (fun c p hp => ?_) p.val p.isLt
  rw [stage _ x12 x13 x14 _ _ (window64 x0 x9 x10 x11 x12) (mix64' x0 x9 x10 x11 x12 x13 x14) n c p hp, lite_eq y12 y13 y14 x12 x13 x14 h12 h13 h14]
  congr 1
  funext c
  refine padded_congr _ _ fun p hp => ?_
  rw [stage _ x9 x10 x11 _ _ (window96 x0 x9) (mix64 x0 x9 x10 x11) n c p hp, lite_eq y9 y10 y11 x9 x10 x11 h9 h10 h11, img_eq y0 n x0 h0]

end Cert.Match
-- ==== Proof.Arrays.lean ====
/- The arrays around the launch: what the pipeline's input blocks hold in terms of the program's arguments, and what its two
   result arrays hold once every grid point has been written back. -/
module

public import proofs.«01_k».proof.Proof.Launch
public import proofs.«01_k».proof.Proof.Match
public import Idealize.ShloMosaic.Lib.Routing.OpsOne
public import Idealize.ShloMosaic.Lib.Pipeline.ValueKit
public import Idealize.ShloMosaic.Lib.Pointwise

@[expose] public section

set_option maxRecDepth 16384
set_option maxHeartbeats 1000000

noncomputable section

namespace Cert.KernelIdeal.Arrays

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Value Cert.KernelIdeal.Launch Cert.Match

variable (m : (ℓ : Loc nD τ sig) → Buf (Elt Ideal) ℓ) (c : Dev nD) (t : Fin cfg0.N)

/-- The batch, as the launch finds it. -/
theorem entry0 (n : Fin 8) (a : Fin 96) (p : Fin 16384) :
    (V m c main_call0_v0 : FVec Ideal S8x96x16384 .f32) (ix3 n a p)
      = m ((c.tc : Thread nD τ).loc main_arg0) (ix4 n a ⟨p.val / 128, by omega⟩ ⟨p.val % 128, by omega⟩) := by
  have h : V m c main_call0_v0 = (shapeCast S8x96x16384 (m ((c.tc : Thread nD τ).loc main_arg0) : FVec Ideal S8x96x128x128 .f32) shapeCasts_S8x96x128x128_S8x96x16384 : FVec Ideal S8x96x16384 .f32) := by
    show StableHlo.after hostOps0 (fun b => m (c, b)) (Proc.devRef .tc main_call0_v0) = _
    after_results
    rfl
  rw [h]
  pointwise

theorem entry1 : Taps (V m c main_call0_v2 : FVec Ideal S96x25 .bf16) (m ((c.tc : Thread nD τ).loc main_arg1)) := by
  have h : V m c main_call0_v2 = (truncf (F := Ideal) .bf16 (shapeCast S96x25 (m ((c.tc : Thread nD τ).loc main_arg1) : FVec Ideal S96x1x5x5 .f32) shapeCasts_S96x1x5x5_S96x25) bitsLt_bf16_f32 : FVec Ideal S96x25 .bf16) := by
    show StableHlo.after hostOps0 (fun b => m (c, b)) (Proc.devRef .tc main_call0_v2) = _
    after_results
    rfl
  intro a k
  rw [h]
  pointwise

theorem entry2 : Mix (V m c main_call0_v4 : FVec Ideal S128x96 .bf16) (m ((c.tc : Thread nD τ).loc main_arg2)) := by
  have h : V m c main_call0_v4 = (truncf (F := Ideal) .bf16 (shapeCast S128x96 (m ((c.tc : Thread nD τ).loc main_arg2) : FVec Ideal S128x96x1x1 .f32) shapeCasts_S128x96x1x1_S128x96) bitsLt_bf16_f32 : FVec Ideal S128x96 .bf16) := by
    show StableHlo.after hostOps0 (fun b => m (c, b)) (Proc.devRef .tc main_call0_v4) = _
    after_results
    rfl
  intro a k
  rw [h]
  pointwise

theorem entry3 : Bias (V m c main_call0_v5 : FVec Ideal S128x1 .f32) (m ((c.tc : Thread nD τ).loc main_arg3)) := by
  have h : V m c main_call0_v5 = (shapeCast S128x1 (m ((c.tc : Thread nD τ).loc main_arg3) : FVec Ideal S128 .f32) shapeCasts_S128_S128x1 : FVec Ideal S128x1 .f32) := by
    show StableHlo.after hostOps0 (fun b => m (c, b)) (Proc.devRef .tc main_call0_v5) = _
    after_results
    rfl
  intro a
  rw [h]
  pointwise

theorem entry4 : Taps (V m c main_call0_v7 : FVec Ideal S128x25 .bf16) (m ((c.tc : Thread nD τ).loc main_arg4)) := by
  have h : V m c main_call0_v7 = (truncf (F := Ideal) .bf16 (shapeCast S128x25 (m ((c.tc : Thread nD τ).loc main_arg4) : FVec Ideal S128x1x5x5 .f32) shapeCasts_S128x1x5x5_S128x25) bitsLt_bf16_f32 : FVec Ideal S128x25 .bf16) := by
    show StableHlo.after hostOps0 (fun b => m (c, b)) (Proc.devRef .tc main_call0_v7) = _
    after_results
    rfl
  intro a k
  rw [h]
  pointwise

theorem entry5 : Mix (V m c main_call0_v9 : FVec Ideal S128x128 .bf16) (m ((c.tc : Thread nD τ).loc main_arg5)) := by
  have h : V m c main_call0_v9 = (truncf (F := Ideal) .bf16 (shapeCast S128x128 (m ((c.tc : Thread nD τ).loc main_arg5) : FVec Ideal S128x128x1x1 .f32) shapeCasts_S128x128x1x1_S128x128) bitsLt_bf16_f32 : FVec Ideal S128x128 .bf16) := by
    show StableHlo.after hostOps0 (fun b => m (c, b)) (Proc.devRef .tc main_call0_v9) = _
    after_results
    rfl
  intro a k
  rw [h]
  pointwise

theorem entry6 : Bias (V m c main_call0_v10 : FVec Ideal S128x1 .f32) (m ((c.tc : Thread nD τ).loc main_arg6)) := by
  have h : V m c main_call0_v10 = (shapeCast S128x1 (m ((c.tc : Thread nD τ).loc main_arg6) : FVec Ideal S128 .f32) shapeCasts_S128_S128x1 : FVec Ideal S128x1 .f32) := by
    show StableHlo.after hostOps0 (fun b => m (c, b)) (Proc.devRef .tc main_call0_v10) = _
    after_results
    rfl
  intro a
  rw [h]
  pointwise

theorem entry7 : Mix (V m c main_call0_v12 : FVec Ideal S80x128 .bf16) (m ((c.tc : Thread nD τ).loc main_arg7)) := by
  have h : V m c main_call0_v12 = (truncf (F := Ideal) .bf16 (shapeCast S80x128 (m ((c.tc : Thread nD τ).loc main_arg7) : FVec Ideal S80x128x1x1 .f32) shapeCasts_S80x128x1x1_S80x128) bitsLt_bf16_f32 : FVec Ideal S80x128 .bf16) := by
    show StableHlo.after hostOps0 (fun b => m (c, b)) (Proc.devRef .tc main_call0_v12) = _
    after_results
    rfl
  intro a k
  rw [h]
  pointwise

theorem entry8 : Bias (V m c main_call0_v13 : FVec Ideal S80x1 .f32) (m ((c.tc : Thread nD τ).loc main_arg8)) := by
  have h : V m c main_call0_v13 = (shapeCast S80x1 (m ((c.tc : Thread nD τ).loc main_arg8) : FVec Ideal S80 .f32) shapeCasts_S80_S80x1 : FVec Ideal S80x1 .f32) := by
    show StableHlo.after hostOps0 (fun b => m (c, b)) (Proc.devRef .tc main_call0_v13) = _
    after_results
    rfl
  intro a
  rw [h]
  pointwise

theorem entry9 : Taps (V m c main_call0_v15 : FVec Ideal S96x25 .bf16) (m ((c.tc : Thread nD τ).loc main_arg9)) := by
  have h : V m c main_call0_v15 = (truncf (F := Ideal) .bf16 (shapeCast S96x25 (m ((c.tc : Thread nD τ).loc main_arg9) : FVec Ideal S96x1x5x5 .f32) shapeCasts_S96x1x5x5_S96x25) bitsLt_bf16_f32 : FVec Ideal S96x25 .bf16) := by
    show StableHlo.after hostOps0 (fun b => m (c, b)) (Proc.devRef .tc main_call0_v15) = _
    after_results
    rfl
  intro a k
  rw [h]
  pointwise

theorem entry10 : Mix (V m c main_call0_v17 : FVec Ideal S64x96 .bf16) (m ((c.tc : Thread nD τ).loc main_arg10)) := by
  have h : V m c main_call0_v17 = (truncf (F := Ideal) .bf16 (shapeCast S64x96 (m ((c.tc : Thread nD τ).loc main_arg10) : FVec Ideal S64x96x1x1 .f32) shapeCasts_S64x96x1x1_S64x96) bitsLt_bf16_f32 : FVec Ideal S64x96 .bf16) := by
    show StableHlo.after hostOps0 (fun b => m (c, b)) (Proc.devRef .tc main_call0_v17) = _
    after_results
    rfl
  intro a k
  rw [h]
  pointwise

theorem entry11 : Bias (V m c main_call0_v18 : FVec Ideal S64x1 .f32) (m ((c.tc : Thread nD τ).loc main_arg11)) := by
  have h : V m c main_call0_v18 = (shapeCast S64x1 (m ((c.tc : Thread nD τ).loc main_arg11) : FVec Ideal S64 .f32) shapeCasts_S64_S64x1 : FVec Ideal S64x1 .f32) := by
    show StableHlo.after hostOps0 (fun b => m (c, b)) (Proc.devRef .tc main_call0_v18) = _
    after_results
    rfl
  intro a
  rw [h]
  pointwise

theorem entry12 : Taps (V m c main_call0_v20 : FVec Ideal S64x25 .bf16) (m ((c.tc : Thread nD τ).loc main_arg12)) := by
  have h : V m c main_call0_v20 = (truncf (F := Ideal) .bf16 (shapeCast S64x25 (m ((c.tc : Thread nD τ).loc main_arg12) : FVec Ideal S64x1x5x5 .f32) shapeCasts_S64x1x5x5_S64x25) bitsLt_bf16_f32 : FVec Ideal S64x25 .bf16) := by
    show StableHlo.after hostOps0 (fun b => m (c, b)) (Proc.devRef .tc main_call0_v20) = _
    after_results
    rfl
  intro a k
  rw [h]
  pointwise

theorem entry13 : Mix (V m c main_call0_v22 : FVec Ideal S64x64 .bf16) (m ((c.tc : Thread nD τ).loc main_arg13)) := by
  have h : V m c main_call0_v22 = (truncf (F := Ideal) .bf16 (shapeCast S64x64 (m ((c.tc : Thread nD τ).loc main_arg13) : FVec Ideal S64x64x1x1 .f32) shapeCasts_S64x64x1x1_S64x64) bitsLt_bf16_f32 : FVec Ideal S64x64 .bf16) := by
    show StableHlo.after hostOps0 (fun b => m (c, b)) (Proc.devRef .tc main_call0_v22) = _
    after_results
    rfl
  intro a k
  rw [h]
  pointwise

theorem entry14 : Bias (V m c main_call0_v23 : FVec Ideal S64x1 .f32) (m ((c.tc : Thread nD τ).loc main_arg14)) := by
  have h : V m c main_call0_v23 = (shapeCast S64x1 (m ((c.tc : Thread nD τ).loc main_arg14) : FVec Ideal S64 .f32) shapeCasts_S64_S64x1 : FVec Ideal S64x1 .f32) := by
    show StableHlo.after hostOps0 (fun b => m (c, b)) (Proc.devRef .tc main_call0_v23) = _
    after_results
    rfl
  intro a
  rw [h]
  pointwise

/-- The last mix's weights: the first four of eight rows are the argument's. -/
theorem entry15 (a : Fin 4) (k : Fin 64) : (V m c main_call0_v28 : FVec Ideal S8x64 .bf16) (ix2 (a.castLE (by decide)) k) = m ((c.tc : Thread nD τ).loc main_arg15) (ix4 a k 0 0) := by
  have h : V m c main_call0_v28 = (Host.scatter scatter_S8x64_S1_S4x64_01_n_0_0 (fun _ b => b) (broadcastInDim S8x64 ![] bcast_S_S8x64 (constant (F := Ideal) S_ .bf16 0#16))
      (broadcastInDim S1 ![] bcast_S_S1 (constantI S_ 32 0#32))
      (truncf (F := Ideal) .bf16 (shapeCast S4x64 (m ((c.tc : Thread nD τ).loc main_arg15) : FVec Ideal S4x64x1x1 .f32) shapeCasts_S4x64x1x1_S4x64) bitsLt_bf16_f32) : FVec Ideal S8x64 .bf16) := by
    show StableHlo.after hostOps0 (fun b => m (c, b)) (Proc.devRef .tc main_call0_v28) = _
    after_results
    simp only [StableHlo.TRef.ofBuf_toBuf]
    unfold StableHlo.TRef.toBuf
    refine (cast_eq _ _).trans ?_
    refine congrArg (fun u => Host.scatter scatter_S8x64_S1_S4x64_01_n_0_0 (fun _ b => b) (broadcastInDim S8x64 ![] bcast_S_S8x64 (constant (F := Ideal) S_ .bf16 0#16))
      (broadcastInDim S1 ![] bcast_S_S1 (constantI S_ 32 0#32)) u) ?_
    rfl
  rw [h]
  have lands : ∀ (j : S4x64.Idx) (r : Fin 8) (k : Fin 64), scatter_S8x64_S1_S4x64_01_n_0_0.resultIdx? j (broadcastInDim S1 ![] bcast_S_S1 (constantI S_ 32 0#32)) = some (ix2 r k)
      ↔ (j 0).val = r.val ∧ (j 1).val = k.val := by
    intro j r k
    have hm : (0 : Fin 2) ∈ scatter_S8x64_S1_S4x64_01_n_0_0.scatterDimsToOperandDims := List.mem_singleton.2 rfl
    have s0 : scatter_S8x64_S1_S4x64_01_n_0_0.start j (broadcastInDim S1 ![] bcast_S_S1 (constantI S_ 32 0#32)) 0 = 0 := by
      unfold ScatterDims.start
      rw [dif_pos hm]
      rfl
    have s1 : scatter_S8x64_S1_S4x64_01_n_0_0.start j (broadcastInDim S1 ![] bcast_S_S1 (constantI S_ 32 0#32)) 1 = 0 := by
      unfold ScatterDims.start
      rw [dif_neg (by decide)]
    have w0 : scatter_S8x64_S1_S4x64_01_n_0_0.window j 0 = (j 0).val := by
      unfold ScatterDims.window
      rw [dif_pos (by decide)]
      rfl
    have w1 : scatter_S8x64_S1_S4x64_01_n_0_0.window j 1 = (j 1).val := by
      unfold ScatterDims.window
      rw [dif_pos (by decide)]
      rfl
    refine (Routing.resultIdx?_ix2 _ j _ r k).trans ?_
    rw [s0, s1, w0, w1]
    omega
  refine (Routing.scatter_set_hit scatter_S8x64_S1_S4x64_01_n_0_0 _ _ _ _ (m ((c.tc : Thread nD τ).loc main_arg15) (ix4 a k 0 0)) (fun j hj => ?_) (ix2 a k) ((lands _ _ _).2 ⟨rfl, rfl⟩))
  obtain ⟨h0, h1⟩ := (lands _ _ _).1 hj
  obtain rfl : j = ix2 a k := by funext q; fin_cases q <;> apply Fin.ext <;> assumption
  pointwise

/-- The last mix's bias: the first four of eight rows are the argument's. -/
theorem entry16 (a : Fin 4) : (V m c main_call0_v33 : FVec Ideal S8x1 .f32) (ix2 (a.castLE (by decide)) 0) = m ((c.tc : Thread nD τ).loc main_arg16) (ix1 a) := by
  have h : V m c main_call0_v33 = (Host.scatter scatter_S8x1_S2_S4_0_1_01_0 (fun _ b => b) (broadcastInDim S8x1 ![] bcast_S_S8x1 (constant (F := Ideal) S_ .f32 0#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c.tc : Thread nD τ).loc main_arg16) : FVec Ideal S4 .f32) : FVec Ideal S8x1 .f32) := by
    show StableHlo.after hostOps0 (fun b => m (c, b)) (Proc.devRef .tc main_call0_v33) = _
    after_results
    simp only [StableHlo.TRef.ofBuf_toBuf]
    rfl
  rw [h, Routing.scatter_column_signed scatter_S8x1_S2_S4_0_1_01_0 (by decide) rfl rfl rfl]
  have e : ∀ i : Fin 2, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ValueIdx.ix1 i) = 0#32 := by
    intro i
    fin_vals i with hi
    all_goals
      pointwise
      exact ite_self _
  rw [e, e, if_pos ⟨by simp [ix2], by simp, by simp [ix2]⟩]
  refine congrArg _ (congrArg ix1 (Fin.ext ?_))
  have ha := a.isLt
  show ((((a.castLE (by decide : 4 ≤ 8)).val : Int) - (0#32).toInt).toNat % 4 : ℕ) = a.val
  simp

theorem at0 : ∀ t : Fin cfg0.N, win0_0.index t = ![t.val, 0, 0] := (by decide +kernel : ∀ t : Fin grid0.N, _)
theorem at17 : ∀ t : Fin cfg0.N, win0_17.index t = ![t.val, 0, 0] := (by decide +kernel : ∀ t : Fin grid0.N, _)
theorem at18 : ∀ t : Fin cfg0.N, win0_18.index t = ![t.val, 0, 0] := (by decide +kernel : ∀ t : Fin grid0.N, _)

/-- The image a grid point sees is the batch's image of the same number. -/
theorem block0 (n : Fin 8) (hn : t.val = n.val) : Image (iblk m c 0 t) n (m ((c.tc : Thread nD τ).loc main_arg0)) := by
  intro a p
  rw [← entry0 m c n a p]
  blk_simp [iblk]
  refine congrArg (V m c main_call0_v0) ?_
  blk_ext [at0]

/-! Every other input block is the whole array. -/

theorem at1 : ∀ t : Fin cfg0.N, win0_1.index t = ![0, 0] := (by decide +kernel : ∀ t : Fin grid0.N, _)
theorem block1 (y : S96x25.Idx) : iblk m c 1 t y = V m c main_call0_v2 y := by
  blk_simp [iblk]
  refine congrArg (V m c main_call0_v2) ?_
  blk_ext [at1]

theorem at2 : ∀ t : Fin cfg0.N, win0_2.index t = ![0, 0] := (by decide +kernel : ∀ t : Fin grid0.N, _)
theorem block2 (y : S128x96.Idx) : iblk m c 2 t y = V m c main_call0_v4 y := by
  blk_simp [iblk]
  refine congrArg (V m c main_call0_v4) ?_
  blk_ext [at2]

theorem at3 : ∀ t : Fin cfg0.N, win0_3.index t = ![0, 0] := (by decide +kernel : ∀ t : Fin grid0.N, _)
theorem block3 (y : S128x1.Idx) : iblk m c 3 t y = V m c main_call0_v5 y := by
  blk_simp [iblk]
  refine congrArg (V m c main_call0_v5) ?_
  blk_ext [at3]

theorem at4 : ∀ t : Fin cfg0.N, win0_4.index t = ![0, 0] := (by decide +kernel : ∀ t : Fin grid0.N, _)
theorem block4 (y : S128x25.Idx) : iblk m c 4 t y = V m c main_call0_v7 y := by
  blk_simp [iblk]
  refine congrArg (V m c main_call0_v7) ?_
  blk_ext [at4]

theorem at5 : ∀ t : Fin cfg0.N, win0_5.index t = ![0, 0] := (by decide +kernel : ∀ t : Fin grid0.N, _)
theorem block5 (y : S128x128.Idx) : iblk m c 5 t y = V m c main_call0_v9 y := by
  blk_simp [iblk]
  refine congrArg (V m c main_call0_v9) ?_
  blk_ext [at5]

theorem at6 : ∀ t : Fin cfg0.N, win0_6.index t = ![0, 0] := (by decide +kernel : ∀ t : Fin grid0.N, _)
theorem block6 (y : S128x1.Idx) : iblk m c 6 t y = V m c main_call0_v10 y := by
  blk_simp [iblk]
  refine congrArg (V m c main_call0_v10) ?_
  blk_ext [at6]

theorem at7 : ∀ t : Fin cfg0.N, win0_7.index t = ![0, 0] := (by decide +kernel : ∀ t : Fin grid0.N, _)
theorem block7 (y : S80x128.Idx) : iblk m c 7 t y = V m c main_call0_v12 y := by
  blk_simp [iblk]
  refine congrArg (V m c main_call0_v12) ?_
  blk_ext [at7]

theorem at8 : ∀ t : Fin cfg0.N, win0_8.index t = ![0, 0] := (by decide +kernel : ∀ t : Fin grid0.N, _)
theorem block8 (y : S80x1.Idx) : iblk m c 8 t y = V m c main_call0_v13 y := by
  blk_simp [iblk]
  refine congrArg (V m c main_call0_v13) ?_
  blk_ext [at8]

theorem at9 : ∀ t : Fin cfg0.N, win0_9.index t = ![0, 0] := (by decide +kernel : ∀ t : Fin grid0.N, _)
theorem block9 (y : S96x25.Idx) : iblk m c 9 t y = V m c main_call0_v15 y := by
  blk_simp [iblk]
  refine congrArg (V m c main_call0_v15) ?_
  blk_ext [at9]

theorem at10 : ∀ t : Fin cfg0.N, win0_10.index t = ![0, 0] := (by decide +kernel : ∀ t : Fin grid0.N, _)
theorem block10 (y : S64x96.Idx) : iblk m c 10 t y = V m c main_call0_v17 y := by
  blk_simp [iblk]
  refine congrArg (V m c main_call0_v17) ?_
  blk_ext [at10]

theorem at11 : ∀ t : Fin cfg0.N, win0_11.index t = ![0, 0] := (by decide +kernel : ∀ t : Fin grid0.N, _)
theorem block11 (y : S64x1.Idx) : iblk m c 11 t y = V m c main_call0_v18 y := by
  blk_simp [iblk]
  refine congrArg (V m c main_call0_v18) ?_
  blk_ext [at11]

theorem at12 : ∀ t : Fin cfg0.N, win0_12.index t = ![0, 0] := (by decide +kernel : ∀ t : Fin grid0.N, _)
theorem block12 (y : S64x25.Idx) : iblk m c 12 t y = V m c main_call0_v20 y := by
  blk_simp [iblk]
  refine congrArg (V m c main_call0_v20) ?_
  blk_ext [at12]

theorem at13 : ∀ t : Fin cfg0.N, win0_13.index t = ![0, 0] := (by decide +kernel : ∀ t : Fin grid0.N, _)
theorem block13 (y : S64x64.Idx) : iblk m c 13 t y = V m c main_call0_v22 y := by
  blk_simp [iblk]
  refine congrArg (V m c main_call0_v22) ?_
  blk_ext [at13]

theorem at14 : ∀ t : Fin cfg0.N, win0_14.index t = ![0, 0] := (by decide +kernel : ∀ t : Fin grid0.N, _)
theorem block14 (y : S64x1.Idx) : iblk m c 14 t y = V m c main_call0_v23 y := by
  blk_simp [iblk]
  refine congrArg (V m c main_call0_v23) ?_
  blk_ext [at14]

theorem at15 : ∀ t : Fin cfg0.N, win0_15.index t = ![0, 0] := (by decide +kernel : ∀ t : Fin grid0.N, _)
theorem block15 (y : S8x64.Idx) : iblk m c 15 t y = V m c main_call0_v28 y := by
  blk_simp [iblk]
  refine congrArg (V m c main_call0_v28) ?_
  blk_ext [at15]

theorem at16 : ∀ t : Fin cfg0.N, win0_16.index t = ![0, 0] := (by decide +kernel : ∀ t : Fin grid0.N, _)
theorem block16 (y : S8x1.Idx) : iblk m c 16 t y = V m c main_call0_v33 y := by
  blk_simp [iblk]
  refine congrArg (V m c main_call0_v33) ?_
  blk_ext [at16]

/-- The first result block is the reference's first result at the same image. -/
theorem res17_eq (n : Fin 8) (hn : t.val = n.val) (o : Fin 80) (p : Fin 16384) :
    res17 m c t (ix3 0 o p) = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (ix4 n o ⟨p.val / 128, by omega⟩ ⟨p.val % 128, by omega⟩) :=
  first n _ _ _ _ _ _ _ _ _ _ _ _ _ _ _ _ _ _ (block0 m c t n hn)
    (fun a k => (block1 m c t _).trans (entry1 m c a k)) (fun a k => (block2 m c t _).trans (entry2 m c a k)) (fun a => (block3 m c t _).trans (entry3 m c a)) (fun a k => (block4 m c t _).trans (entry4 m c a k)) (fun a k => (block5 m c t _).trans (entry5 m c a k)) (fun a => (block6 m c t _).trans (entry6 m c a)) (fun a k => (block7 m c t _).trans (entry7 m c a k)) (fun a => (block8 m c t _).trans (entry8 m c a)) o p

/-- The first four rows of the second result block are the reference's second result at the same image. -/
theorem res18_eq (n : Fin 8) (hn : t.val = n.val) (o : Fin 4) (p : Fin 16384) :
    res18 m c t (ix3 0 (o.castLE (by decide)) p) = Cert.ReferenceIdeal.Read.val_main_v158 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      (ix4 n o ⟨p.val / 128, by omega⟩ ⟨p.val % 128, by omega⟩) :=
  second n _ _ _ _ _ _ _ _ _ _ _ _ _ _ _ _ _ _ (block0 m c t n hn)
    (fun a k => (block9 m c t _).trans (entry9 m c a k)) (fun a k => (block10 m c t _).trans (entry10 m c a k)) (fun a => (block11 m c t _).trans (entry11 m c a)) (fun a k => (block12 m c t _).trans (entry12 m c a k)) (fun a k => (block13 m c t _).trans (entry13 m c a k)) (fun a => (block14 m c t _).trans (entry14 m c a)) o
    (fun k => (block15 m c t _).trans (entry15 m c o k)) ((block16 m c t _).trans (entry16 m c o)) p

/-- The grid point of an image. -/
def pt (n : Fin 8) : Fin cfg0.N := ⟨n.val, by rw [show cfg0.N = 8 from N_0]; exact n.isLt⟩

/-- The first result array: image by image what its grid point left. -/
theorem final17 : (dats m 0 c).arrAt 17 cfg0.N = fun y : S8x80x16384.Idx => res17 m c (pt (y 0)) (ix3 0 (y 1) (y 2)) := by
  refine (dats m 0 c).arrAt_eq_of_covers 17 _ (by decide +kernel) fun t hf y => ?_
  blk_simp
  rw [after0_17]
  have e : pt ((win0_17.blk t).view.emb y 0) = t := by
    refine Fin.ext ?_
    show ((win0_17.blk t).view.emb y 0).val = t.val
    blk_simp [at17]
  rw [e]
  refine congrArg (res17 m c t) ?_
  blk_ext [at17]

/-- The second result array: image by image what its grid point left. -/
theorem final18 : (dats m 0 c).arrAt 18 cfg0.N = fun y : S8x8x16384.Idx => res18 m c (pt (y 0)) (ix3 0 (y 1) (y 2)) := by
  refine (dats m 0 c).arrAt_eq_of_covers 18 _ (by decide +kernel) fun t hf y => ?_
  blk_simp
  rw [after0_18]
  have e : pt ((win0_18.blk t).view.emb y 0) = t := by
    refine Fin.ext ?_
    show ((win0_18.blk t).view.emb y 0).val = t.val
    blk_simp [at18]
  rw [e]
  refine congrArg (res18 m c t) ?_
  blk_ext [at18]

/-- The first result: the first result array, its pixels laid out in rows. -/
theorem tail_first (Z : Valuation τ sig (Elt Ideal)) : StableHlo.after hostOps1 Z (Proc.devRef .tc main_v0_0)
    = (shapeCast S8x80x128x128 (Z (Proc.devRef .tc main_call0_v34_0) : FVec Ideal S8x80x16384 .f32) shapeCasts_S8x80x16384_S8x80x128x128 : FVec Ideal S8x80x128x128 .f32) := by
  after_results
  rfl

/-- The second result: the first four rows of the second result array, their pixels laid out in rows. -/
theorem tail_second (Z : Valuation τ sig (Elt Ideal)) : StableHlo.after hostOps1 Z (Proc.devRef .tc main_v0_1)
    = (shapeCast S8x4x128x128 (extractStridedSlice S8x4x16384 ![0, 0, 0] (Z (Proc.devRef .tc main_call0_v34_1) : FVec Ideal S8x8x16384 .f32) slices_S8x8x16384_S8x4x16384_0_0_0)
        shapeCasts_S8x4x16384_S8x4x128x128 : FVec Ideal S8x4x128x128 .f32) := by
  after_results
  rfl

/-- The first result, as the remaining lines leave it. -/
theorem out_first : Pipeline.afterTail₀ cfgs (dats m) 0 (V0 m) [hostOps1] c main_v0_0
    = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hw := (Pipeline.withArrays_arr (cfgs 0).spec launch0.win.arr_inj c (V0 m c) (fun w => (dats m 0 c).arrAt w (cfgs 0).N) 17).trans (final17 m c)
  refine (tail_first _).trans ?_
  refine (congrArg (fun x : FVec Ideal S8x80x16384 .f32 => shapeCast S8x80x128x128 x shapeCasts_S8x80x16384_S8x80x128x128) hw).trans ?_
  funext y
  obtain ⟨n, o, i, j, rfl⟩ : ∃ (n : Fin 8) (o : Fin 80) (i j : Fin 128), y = ix4 n o i j := ⟨y 0, y 1, y 2, y 3, by funext a; fin_cases a <;> rfl⟩
  pointwise
  refine (res17_eq m c (pt n) n rfl o ⟨i.val * 128 + j.val, by omega⟩).trans ?_
  congr 2 <;> (apply Fin.ext; simp only; omega)

/-- The second result, as the remaining lines leave it. -/
theorem out_second : Pipeline.afterTail₀ cfgs (dats m) 0 (V0 m) [hostOps1] c main_v0_1
    = Cert.ReferenceIdeal.Read.val_main_v158 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have hw := (Pipeline.withArrays_arr (cfgs 0).spec launch0.win.arr_inj c (V0 m c) (fun w => (dats m 0 c).arrAt w (cfgs 0).N) 18).trans (final18 m c)
  refine (tail_second _).trans ?_
  refine (congrArg (fun x : FVec Ideal S8x8x16384 .f32 => shapeCast S8x4x128x128 (extractStridedSlice S8x4x16384 ![0, 0, 0] x slices_S8x8x16384_S8x4x16384_0_0_0)
    shapeCasts_S8x4x16384_S8x4x128x128) hw).trans ?_
  funext y
  obtain ⟨n, o, i, j, rfl⟩ : ∃ (n : Fin 8) (o : Fin 4) (i j : Fin 128), y = ix4 n o i j := ⟨y 0, y 1, y 2, y 3, by funext a; fin_cases a <;> rfl⟩
  pointwise
  refine (res18_eq m c (pt n) n rfl o ⟨i.val * 128 + j.val, by omega⟩).trans ?_
  congr 2 <;> (apply Fin.ext; simp only; omega)

end Cert.KernelIdeal.Arrays
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Launch
public import proofs.«01_k».proof.Proof.Arrays
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

set_option maxHeartbeats 16000000 in
set_option maxRecDepth 100000 in
/-- The frame of the reference, read over the extended reals: it is host code alone, so it runs to its end and
    leaves its arguments as they were, and it has no semaphore whose count could be other than zero. -/
theorem reference : Cert.quiescent_ReferenceIdeal := by
  intro m g _
  hlo_run
  · exact fun _ => ⟨trivial, trivial, trivial, trivial, trivial, trivial, trivial, trivial, trivial, trivial, trivial,
      trivial, trivial, trivial, trivial, trivial, trivial⟩
  · exact sem_eq_zero_of_no_sems (sig := Cert.ReferenceIdeal.sig) (by decide) _

/-- The reference's first result over the kernel's arguments. -/
def result1 (m : (ℓ : Loc Cert.KernelIdeal.nD Cert.KernelIdeal.τ Cert.KernelIdeal.sig) → Buf (Elt Ideal) ℓ) (c : Dev Cert.KernelIdeal.nD) :
    FVec Ideal Cert.ReferenceIdeal.S8x80x128x128 .f32 :=
  Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The reference's second result over the kernel's arguments. -/
def result2 (m : (ℓ : Loc Cert.KernelIdeal.nD Cert.KernelIdeal.τ Cert.KernelIdeal.sig) → Buf (Elt Ideal) ℓ) (c : Dev Cert.KernelIdeal.nD) :
    FVec Ideal Cert.ReferenceIdeal.S8x4x128x128 .f32 :=
  Cert.ReferenceIdeal.Read.val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

/-- Over the extended reals the kernel and the reference, run on the same arguments, end with the same two results. -/
theorem algebraic : Cert.algebraic_KernelIdeal_ReferenceIdeal := by
  intro m g m' g' _ hagree
  refine ⟨result1 m, result2 m, ?_, ?_⟩
  · exact (θ_run Cert.KernelIdeal.defs _ _).mono
      (fun r h c => ⟨((h.1 c).2 Cert.KernelIdeal.main_v0_0 (Pipeline.mem_restRefs_of _ (by decide) (by decide))).trans (Cert.KernelIdeal.Arrays.out_first m c),
        ((h.1 c).2 Cert.KernelIdeal.main_v0_1 (Pipeline.mem_restRefs_of _ (by decide) (by decide))).trans (Cert.KernelIdeal.Arrays.out_second m c), h.2 c⟩)
      (θ_run_and (Cert.KernelIdeal.Launch.run_main m g) (Cert.KernelIdeal.Launch.unchanged m g))
  · refine (θ_run Cert.ReferenceIdeal.defs _ _).mono (fun r h c => ⟨(h c).1.trans ?_, (h c).2.1.trans ?_, (h c).2.2⟩) (Cert.ReferenceIdeal.Value.run m' g')
    · obtain ⟨h0, h1, h2, h3, h4, h5, h6, h7, h8, h9, h10, h11, h12, h13, h14, h15, h16⟩ := hagree c
      refine (Cert.ReferenceIdeal.Read.val_main_v77_eq (F := Ideal) (fun b => m' (c, b))).trans ?_
      show Cert.ReferenceIdeal.Read.val_main_v77 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
      rw [h0, h1, h2, h3, h4, h5, h6, h7, h8]
      rfl
    · obtain ⟨h0, h1, h2, h3, h4, h5, h6, h7, h8, h9, h10, h11, h12, h13, h14, h15, h16⟩ := hagree c
      refine (Cert.ReferenceIdeal.Read.val_main_v158_eq (F := Ideal) (fun b => m' (c, b))).trans ?_
      show Cert.ReferenceIdeal.Read.val_main_v158 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
      rw [h0, h9, h10, h11, h12, h13, h14, h15, h16]
      rfl

/-- The claims. -/
theorem claim : Cert.Claim :=
  ⟨Cert.Kernel.Gen.facts, Cert.KernelIdeal.Gen.facts, Cert.ReferenceIdeal.Gen.facts,
    fun m ρ _ => Cert.Kernel.Track.frame m ρ, fun m ρ _ => Cert.KernelIdeal.Launch.frame m ρ, reference, trivial, algebraic⟩

end Cert.Proof

end
